-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S8x64x576 : Shape := ⟨3, ![8, 64, 576]⟩
abbrev S64x512 : Shape := ⟨2, ![64, 512]⟩
abbrev S_ : Shape := ⟨0, ![]⟩

class Facts : Prop where
  bcast_S_S8x64x576 : S_.BroadcastsInDim S8x64x576 (![] : Fin 0 → Fin S8x64x576.rank)
  reducesTo_S8x64x576_S_d0_1_2 : S8x64x576.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S8x64x576 .f32) (main_arg1 : FVec F S64x512 .f32) : IVec S_ 1 :=
  let main_v0 : FVec F S8x64x576 .f32 := Host.absf main_arg0
  let main_cst : FVec F S_ .f32 := constant S_ .f32 0x7F800000#32
  let main_v1 : FVec F S8x64x576 .f32 := broadcastInDim S8x64x576 ![] bcast_S_S8x64x576 main_cst
  let main_v2 : IVec S8x64x576 1 := cmpf .olt main_v0 main_v1
  let main_c : IVec S_ 1 := constantI S_ 1 1#1
  let main_v3 : IVec S_ 1 := (fun x v => Host.reduce IntOp.andi x v reducesTo_S8x64x576_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  main_v8
-- ==== KernelIdeal.lean ====
abbrev S8x64x576 : Shape := ⟨3, ![8, 64, 576]⟩
abbrev S64x512 : Shape := ⟨2, ![64, 512]⟩
abbrev S8x576x64 : Shape := ⟨3, ![8, 576, 64]⟩
abbrev S8x1x576 : Shape := ⟨3, ![8, 1, 576]⟩
abbrev S1x576x64 : Shape := ⟨3, ![1, 576, 64]⟩
abbrev S1x1x576 : Shape := ⟨3, ![1, 1, 576]⟩
abbrev S576x64 : Shape := ⟨2, ![576, 64]⟩
abbrev S576 : Shape := ⟨1, ![576]⟩
abbrev S576x1 : Shape := ⟨2, ![576, 1]⟩
abbrev S512 : Shape := ⟨1, ![512]⟩
abbrev S1x512 : Shape := ⟨2, ![1, 512]⟩
abbrev S576x512 : Shape := ⟨2, ![576, 512]⟩
abbrev S8x576 : Shape := ⟨2, ![8, 576]⟩
abbrev S32768 : Shape := ⟨1, ![32768]⟩
abbrev S512x576 : Shape := ⟨2, ![512, 576]⟩
abbrev S8192 : Shape := ⟨1, ![8192]⟩
abbrev S1x576 : Shape := ⟨2, ![1, 576]⟩
abbrev S16x576 : Shape := ⟨2, ![16, 576]⟩
abbrev S_ : Shape := ⟨0, ![]⟩
abbrev S16 : Shape := ⟨1, ![16]⟩
abbrev S1x16 : Shape := ⟨2, ![1, 16]⟩

abbrev nBuf : Table → Nat
  | .hbm => 8
  | .local .tc .vmem => 5
  | .local .scVector .vmem => 3
  | _ => 0

abbrev bufTy : (tb : Table) → Fin (nBuf tb) → BufTy
  | .hbm, ⟨0, _⟩ => ⟨S8x64x576, .f32⟩
  | .hbm, ⟨1, _⟩ => ⟨S64x512, .f32⟩
  | .hbm, ⟨2, _⟩ => ⟨S8x576x64, .f32⟩
  | .hbm, ⟨3, _⟩ => ⟨S8x1x576, .i32⟩
  | .hbm, ⟨4, _⟩ => ⟨S8x576, .i32⟩
  | .hbm, ⟨5, _⟩ => ⟨S32768, .f32⟩
  | .hbm, ⟨6, _⟩ => ⟨S512x576, .f32⟩
  | .hbm, ⟨7, _⟩ => ⟨S8x64x576, .f32⟩
  | .local .tc .vmem, ⟨0, _⟩ => ⟨S1x576x64, .f32⟩
  | .local .tc .vmem, ⟨1, _⟩ => ⟨S1x576x64, .f32⟩
  | .local .tc .vmem, ⟨2, _⟩ => ⟨S64x512, .f32⟩
  | .local .tc .vmem, ⟨3, _⟩ => ⟨S1x1x576, .i32⟩
  | .local .tc .vmem, ⟨4, _⟩ => ⟨S1x1x576, .i32⟩
  | .local .scVector .vmem, ⟨0, _⟩ => ⟨S8192, .f32⟩
  | .local .scVector .vmem, ⟨1, _⟩ => ⟨S1x576, .i32⟩
  | .local .scVector .vmem, ⟨2, _⟩ => ⟨S16x576, .f32⟩
  | _, _ => ⟨S8x64x576, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v3_scv : Ref sig .scVector := ⟨.hbm, 5, rfl⟩
abbrev main_v2_scv : Ref sig .scVector := ⟨.hbm, 4, rfl⟩
abbrev main_v4_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x576x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x576 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c512_i32 : BitVec 32 := 512#32
  let v30 : BitVec 32 := Scalar.muli v29 c512_i32
  ![v30.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_90_r1 : BitVec 32 := 0#32
  ![v18.toNat, 0]
@[reducible] def k1_t1_loop : Scf.Loop 32 :=
  let c0_i32_11 : BitVec 32 := 0#32
  let c36_i32 : BitVec 32 := 36#32
  let v31 : BitVec 32 := Scalar.addi c0_i32_11 c36_i32
  let c1_i32_12 : BitVec 32 := 1#32
  ⟨c0_i32_11, v31, c1_i32_12⟩
def k1_off3 (k1_t1 : Fin k1_t1_loop.trips) : Fin 2 → Nat :=
  let c0_i32_91 : BitVec 32 := 0#32
  let v65 : Index := Scalar.indexCast c0_i32_91
  let c0_i32_11 : BitVec 32 := 0#32
  let c1_i32_12 : BitVec 32 := 1#32
  let arg8 : BitVec 32 := Scf.iv c0_i32_11 c1_i32_12 k1_t1
  let c16_i32_90 : BitVec 32 := 16#32
  let v64 : BitVec 32 := Scalar.muli arg8 c16_i32_90
  let v66 : Index := Scalar.indexCast v64
  ![0, v66.toNat]

def k1_chk1 (v69 : IVec S16 32) : Prop :=
  (∀ a x, ((![v69] : Fin 1 → IVec S16 32) a x).toNat < S8192.size a)
theorem k1_idx1_inb : ∀ (v69 : IVec S16 32) (k1_hw1 : k1_chk1 v69), ∀ a x, ((![v69] : Fin 1 → IVec S16 32) a x).toNat < S8192.size a := fun v69 k1_hw1 => k1_hw1
def k1_off4 (k1_t1 : Fin k1_t1_loop.trips) : Fin 2 → Nat :=
  let c0_i32_94 : BitVec 32 := 0#32
  let v72 : Index := Scalar.indexCast c0_i32_94
  let c0_i32_11 : BitVec 32 := 0#32
  let c1_i32_12 : BitVec 32 := 1#32
  let arg8 : BitVec 32 := Scf.iv c0_i32_11 c1_i32_12 k1_t1
  let c16_i32_93 : BitVec 32 := 16#32
  let v71 : BitVec 32 := Scalar.muli arg8 c16_i32_93
  let v73 : Index := Scalar.indexCast v71
  ![0, v73.toNat]
@[reducible] def k1_t2_loop : Scf.Loop 32 :=
  let c0_i32_15 : BitVec 32 := 0#32
  let c36_i32_16 : BitVec 32 := 36#32
  let v33 : BitVec 32 := Scalar.addi c0_i32_15 c36_i32_16
  let c1_i32_17 : BitVec 32 := 1#32
  ⟨c0_i32_15, v33, c1_i32_17⟩
def k1_off5 (k1_t2 : Fin k1_t2_loop.trips) : Fin 2 → Nat :=
  let c0_i32_91 : BitVec 32 := 0#32
  let v65 : Index := Scalar.indexCast c0_i32_91
  let c0_i32_15 : BitVec 32 := 0#32
  let c1_i32_17 : BitVec 32 := 1#32
  let arg8 : BitVec 32 := Scf.iv c0_i32_15 c1_i32_17 k1_t2
  let c16_i32_90 : BitVec 32 := 16#32
  let v64 : BitVec 32 := Scalar.muli arg8 c16_i32_90
  let v66 : Index := Scalar.indexCast v64
  ![0, v66.toNat]

def k1_chk2 (v69 : IVec S16 32) : Prop :=
  (∀ a x, ((![v69] : Fin 1 → IVec S16 32) a x).toNat < S8192.size a)
theorem k1_idx2_inb : ∀ (v69 : IVec S16 32) (k1_hw2 : k1_chk2 v69), ∀ a x, ((![v69] : Fin 1 → IVec S16 32) a x).toNat < S8192.size a := fun v69 k1_hw2 => k1_hw2
def k1_off6 (k1_t2 : Fin k1_t2_loop.trips) : Fin 2 → Nat :=
  let c1_i32_94 : BitVec 32 := 1#32
  let v72 : Index := Scalar.indexCast c1_i32_94
  let c0_i32_15 : BitVec 32 := 0#32
  let c1_i32_17 : BitVec 32 := 1#32
  let arg8 : BitVec 32 := Scf.iv c0_i32_15 c1_i32_17 k1_t2
  let c16_i32_93 : BitVec 32 := 16#32
  let v71 : BitVec 32 := Scalar.muli arg8 c16_i32_93
  let v73 : Index := Scalar.indexCast v71
  ![1, v73.toNat]
@[reducible] def k1_t3_loop : Scf.Loop 32 :=
  let c0_i32_20 : BitVec 32 := 0#32
  let c36_i32_21 : BitVec 32 := 36#32
  let v35 : BitVec 32 := Scalar.addi c0_i32_20 c36_i32_21
  let c1_i32_22 : BitVec 32 := 1#32
  ⟨c0_i32_20, v35, c1_i32_22⟩
def k1_off7 (k1_t3 : Fin k1_t3_loop.trips) : Fin 2 → Nat :=
  let c0_i32_91 : BitVec 32 := 0#32
  let v65 : Index := Scalar.indexCast c0_i32_91
  let c0_i32_20 : BitVec 32 := 0#32
  let c1_i32_22 : BitVec 32 := 1#32
  let arg8 : BitVec 32 := Scf.iv c0_i32_20 c1_i32_22 k1_t3
  let c16_i32_90 : BitVec 32 := 16#32
  let v64 : BitVec 32 := Scalar.muli arg8 c16_i32_90
  let v66 : Index := Scalar.indexCast v64
  ![0, v66.toNat]

def k1_chk3 (v69 : IVec S16 32) : Prop :=
  (∀ a x, ((![v69] : Fin 1 → IVec S16 32) a x).toNat < S8192.size a)
theorem k1_idx3_inb : ∀ (v69 : IVec S16 32) (k1_hw3 : k1_chk3 v69), ∀ a x, ((![v69] : Fin 1 → IVec S16 32) a x).toNat < S8192.size a := fun v69 k1_hw3 => k1_hw3
def k1_off8 (k1_t3 : Fin k1_t3_loop.trips) : Fin 2 → Nat :=
  let c2_i32_93 : BitVec 32 := 2#32
  let v72 : Index := Scalar.indexCast c2_i32_93
  let c0_i32_20 : BitVec 32 := 0#32
  let c1_i32_22 : BitVec 32 := 1#32
  let arg8 : BitVec 32 := Scf.iv c0_i32_20 c1_i32_22 k1_t3
  let c16_i32_92 : BitVec 32 := 16#32
  let v71 : BitVec 32 := Scalar.muli arg8 c16_i32_92
  let v73 : Index := Scalar.indexCast v71
  ![2, v73.toNat]
@[reducible] def k1_t4_loop : Scf.Loop 32 :=
  let c0_i32_25 : BitVec 32 := 0#32
  let c36_i32_26 : BitVec 32 := 36#32
  let v37 : BitVec 32 := Scalar.addi c0_i32_25 c36_i32_26
  let c1_i32_27 : BitVec 32 := 1#32
  ⟨c0_i32_25, v37, c1_i32_27⟩
def k1_off9 (k1_t4 : Fin k1_t4_loop.trips) : Fin 2 → Nat :=
  let c0_i32_91 : BitVec 32 := 0#32
  let v65 : Index := Scalar.indexCast c0_i32_91
  let c0_i32_25 : BitVec 32 := 0#32
  let c1_i32_27 : BitVec 32 := 1#32
  let arg8 : BitVec 32 := Scf.iv c0_i32_25 c1_i32_27 k1_t4
  let c16_i32_90 : BitVec 32 := 16#32
  let v64 : BitVec 32 := Scalar.muli arg8 c16_i32_90
  let v66 : Index := Scalar.indexCast v64
  ![0, v66.toNat]

def k1_chk4 (v69 : IVec S16 32) : Prop :=
  (∀ a x, ((![v69] : Fin 1 → IVec S16 32) a x).toNat < S8192.size a)
theorem k1_idx4_inb : ∀ (v69 : IVec S16 32) (k1_hw4 : k1_chk4 v69), ∀ a x, ((![v69] : Fin 1 → IVec S16 32) a x).toNat < S8192.size a := fun v69 k1_hw4 => k1_hw4
def k1_off10 (k1_t4 : Fin k1_t4_loop.trips) : Fin 2 → Nat :=
  let c3_i32 : BitVec 32 := 3#32
  let v72 : Index := Scalar.indexCast c3_i32
  let c0_i32_25 : BitVec 32 := 0#32
  let c1_i32_27 : BitVec 32 := 1#32
  let arg8 : BitVec 32 := Scf.iv c0_i32_25 c1_i32_27 k1_t4
  let c16_i32_92 : BitVec 32 := 16#32
  let v71 : BitVec 32 := Scalar.muli arg8 c16_i32_92
  let v73 : Index := Scalar.indexCast v71
  ![3, v73.toNat]
@[reducible] def k1_t5_loop : Scf.Loop 32 :=
  let c0_i32_30 : BitVec 32 := 0#32
  let c36_i32_31 : BitVec 32 := 36#32
  let v39 : BitVec 32 := Scalar.addi c0_i32_30 c36_i32_31
  let c1_i32_32 : BitVec 32 := 1#32
  ⟨c0_i32_30, v39, c1_i32_32⟩
def k1_off11 (k1_t5 : Fin k1_t5_loop.trips) : Fin 2 → Nat :=
  let c0_i32_91 : BitVec 32 := 0#32
  let v65 : Index := Scalar.indexCast c0_i32_91
  let c0_i32_30 : BitVec 32 := 0#32
  let c1_i32_32 : BitVec 32 := 1#32
  let arg8 : BitVec 32 := Scf.iv c0_i32_30 c1_i32_32 k1_t5
  let c16_i32_90 : BitVec 32 := 16#32
  let v64 : BitVec 32 := Scalar.muli arg8 c16_i32_90
  let v66 : Index := Scalar.indexCast v64
  ![0, v66.toNat]

def k1_chk5 (v69 : IVec S16 32) : Prop :=
  (∀ a x, ((![v69] : Fin 1 → IVec S16 32) a x).toNat < S8192.size a)
theorem k1_idx5_inb : ∀ (v69 : IVec S16 32) (k1_hw5 : k1_chk5 v69), ∀ a x, ((![v69] : Fin 1 → IVec S16 32) a x).toNat < S8192.size a := fun v69 k1_hw5 => k1_hw5
def k1_off12 (k1_t5 : Fin k1_t5_loop.trips) : Fin 2 → Nat :=
  let c4_i32_93 : BitVec 32 := 4#32
  let v72 : Index := Scalar.indexCast c4_i32_93
  let c0_i32_30 : BitVec 32 := 0#32
  let c1_i32_32 : BitVec 32 := 1#32
  let arg8 : BitVec 32 := Scf.iv c0_i32_30 c1_i32_32 k1_t5
  let c16_i32_92 : BitVec 32 := 16#32
  let v71 : BitVec 32 := Scalar.muli arg8 c16_i32_92
  let v73 : Index := Scalar.indexCast v71
  ![4, v73.toNat]
@[reducible] def k1_t6_loop : Scf.Loop 32 :=
  let c0_i32_35 : BitVec 32 := 0#32
  let c36_i32_36 : BitVec 32 := 36#32
  let v41 : BitVec 32 := Scalar.addi c0_i32_35 c36_i32_36
  let c1_i32_37 : BitVec 32 := 1#32
  ⟨c0_i32_35, v41, c1_i32_37⟩
def k1_off13 (k1_t6 : Fin k1_t6_loop.trips) : Fin 2 → Nat :=
  let c0_i32_91 : BitVec 32 := 0#32
  let v65 : Index := Scalar.indexCast c0_i32_91
  let c0_i32_35 : BitVec 32 := 0#32
  let c1_i32_37 : BitVec 32 := 1#32
  let arg8 : BitVec 32 := Scf.iv c0_i32_35 c1_i32_37 k1_t6
  let c16_i32_90 : BitVec 32 := 16#32
  let v64 : BitVec 32 := Scalar.muli arg8 c16_i32_90
  let v66 : Index := Scalar.indexCast v64
  ![0, v66.toNat]

def k1_chk6 (v69 : IVec S16 32) : Prop :=
  (∀ a x, ((![v69] : Fin 1 → IVec S16 32) a x).toNat < S8192.size a)
theorem k1_idx6_inb : ∀ (v69 : IVec S16 32) (k1_hw6 : k1_chk6 v69), ∀ a x, ((![v69] : Fin 1 → IVec S16 32) a x).toNat < S8192.size a := fun v69 k1_hw6 => k1_hw6
def k1_off14 (k1_t6 : Fin k1_t6_loop.trips) : Fin 2 → Nat :=
  let c5_i32 : BitVec 32 := 5#32
  let v72 : Index := Scalar.indexCast c5_i32
  let c0_i32_35 : BitVec 32 := 0#32
  let c1_i32_37 : BitVec 32 := 1#32
  let arg8 : BitVec 32 := Scf.iv c0_i32_35 c1_i32_37 k1_t6
  let c16_i32_92 : BitVec 32 := 16#32
  let v71 : BitVec 32 := Scalar.muli arg8 c16_i32_92
  let v73 : Index := Scalar.indexCast v71
  ![5, v73.toNat]
@[reducible] def k1_t7_loop : Scf.Loop 32 :=
  let c0_i32_40 : BitVec 32 := 0#32
  let c36_i32_41 : BitVec 32 := 36#32
  let v43 : BitVec 32 := Scalar.addi c0_i32_40 c36_i32_41
  let c1_i32_42 : BitVec 32 := 1#32
  ⟨c0_i32_40, v43, c1_i32_42⟩
def k1_off15 (k1_t7 : Fin k1_t7_loop.trips) : Fin 2 → Nat :=
  let c0_i32_91 : BitVec 32 := 0#32
  let v65 : Index := Scalar.indexCast c0_i32_91
  let c0_i32_40 : BitVec 32 := 0#32
  let c1_i32_42 : BitVec 32 := 1#32
  let arg8 : BitVec 32 := Scf.iv c0_i32_40 c1_i32_42 k1_t7
  let c16_i32_90 : BitVec 32 := 16#32
  let v64 : BitVec 32 := Scalar.muli arg8 c16_i32_90
  let v66 : Index := Scalar.indexCast v64
  ![0, v66.toNat]

def k1_chk7 (v69 : IVec S16 32) : Prop :=
  (∀ a x, ((![v69] : Fin 1 → IVec S16 32) a x).toNat < S8192.size a)
theorem k1_idx7_inb : ∀ (v69 : IVec S16 32) (k1_hw7 : k1_chk7 v69), ∀ a x, ((![v69] : Fin 1 → IVec S16 32) a x).toNat < S8192.size a := fun v69 k1_hw7 => k1_hw7
def k1_off16 (k1_t7 : Fin k1_t7_loop.trips) : Fin 2 → Nat :=
  let c6_i32 : BitVec 32 := 6#32
  let v72 : Index := Scalar.indexCast c6_i32
  let c0_i32_40 : BitVec 32 := 0#32
  let c1_i32_42 : BitVec 32 := 1#32
  let arg8 : BitVec 32 := Scf.iv c0_i32_40 c1_i32_42 k1_t7
  let c16_i32_92 : BitVec 32 := 16#32
  let v71 : BitVec 32 := Scalar.muli arg8 c16_i32_92
  let v73 : Index := Scalar.indexCast v71
  ![6, v73.toNat]
@[reducible] def k1_t8_loop : Scf.Loop 32 :=
  let c0_i32_45 : BitVec 32 := 0#32
  let c36_i32_46 : BitVec 32 := 36#32
  let v45 : BitVec 32 := Scalar.addi c0_i32_45 c36_i32_46
  let c1_i32_47 : BitVec 32 := 1#32
  ⟨c0_i32_45, v45, c1_i32_47⟩
def k1_off17 (k1_t8 : Fin k1_t8_loop.trips) : Fin 2 → Nat :=
  let c0_i32_91 : BitVec 32 := 0#32
  let v65 : Index := Scalar.indexCast c0_i32_91
  let c0_i32_45 : BitVec 32 := 0#32
  let c1_i32_47 : BitVec 32 := 1#32
  let arg8 : BitVec 32 := Scf.iv c0_i32_45 c1_i32_47 k1_t8
  let c16_i32_90 : BitVec 32 := 16#32
  let v64 : BitVec 32 := Scalar.muli arg8 c16_i32_90
  let v66 : Index := Scalar.indexCast v64
  ![0, v66.toNat]

def k1_chk8 (v69 : IVec S16 32) : Prop :=
  (∀ a x, ((![v69] : Fin 1 → IVec S16 32) a x).toNat < S8192.size a)
theorem k1_idx8_inb : ∀ (v69 : IVec S16 32) (k1_hw8 : k1_chk8 v69), ∀ a x, ((![v69] : Fin 1 → IVec S16 32) a x).toNat < S8192.size a := fun v69 k1_hw8 => k1_hw8
def k1_off18 (k1_t8 : Fin k1_t8_loop.trips) : Fin 2 → Nat :=
  let c7_i32 : BitVec 32 := 7#32
  let v72 : Index := Scalar.indexCast c7_i32
  let c0_i32_45 : BitVec 32 := 0#32
  let c1_i32_47 : BitVec 32 := 1#32
  let arg8 : BitVec 32 := Scf.iv c0_i32_45 c1_i32_47 k1_t8
  let c16_i32_92 : BitVec 32 := 16#32
  let v71 : BitVec 32 := Scalar.muli arg8 c16_i32_92
  let v73 : Index := Scalar.indexCast v71
  ![7, v73.toNat]
@[reducible] def k1_t9_loop : Scf.Loop 32 :=
  let c0_i32_50 : BitVec 32 := 0#32
  let c36_i32_51 : BitVec 32 := 36#32
  let v47 : BitVec 32 := Scalar.addi c0_i32_50 c36_i32_51
  let c1_i32_52 : BitVec 32 := 1#32
  ⟨c0_i32_50, v47, c1_i32_52⟩
def k1_off19 (k1_t9 : Fin k1_t9_loop.trips) : Fin 2 → Nat :=
  let c0_i32_91 : BitVec 32 := 0#32
  let v65 : Index := Scalar.indexCast c0_i32_91
  let c0_i32_50 : BitVec 32 := 0#32
  let c1_i32_52 : BitVec 32 := 1#32
  let arg8 : BitVec 32 := Scf.iv c0_i32_50 c1_i32_52 k1_t9
  let c16_i32_90 : BitVec 32 := 16#32
  let v64 : BitVec 32 := Scalar.muli arg8 c16_i32_90
  let v66 : Index := Scalar.indexCast v64
  ![0, v66.toNat]

def k1_chk9 (v69 : IVec S16 32) : Prop :=
  (∀ a x, ((![v69] : Fin 1 → IVec S16 32) a x).toNat < S8192.size a)
theorem k1_idx9_inb : ∀ (v69 : IVec S16 32) (k1_hw9 : k1_chk9 v69), ∀ a x, ((![v69] : Fin 1 → IVec S16 32) a x).toNat < S8192.size a := fun v69 k1_hw9 => k1_hw9
def k1_off20 (k1_t9 : Fin k1_t9_loop.trips) : Fin 2 → Nat :=
  let c8_i32 : BitVec 32 := 8#32
  let v72 : Index := Scalar.indexCast c8_i32
  let c0_i32_50 : BitVec 32 := 0#32
  let c1_i32_52 : BitVec 32 := 1#32
  let arg8 : BitVec 32 := Scf.iv c0_i32_50 c1_i32_52 k1_t9
  let c16_i32_92 : BitVec 32 := 16#32
  let v71 : BitVec 32 := Scalar.muli arg8 c16_i32_92
  let v73 : Index := Scalar.indexCast v71
  ![8, v73.toNat]
@[reducible] def k1_t10_loop : Scf.Loop 32 :=
  let c0_i32_55 : BitVec 32 := 0#32
  let c36_i32_56 : BitVec 32 := 36#32
  let v49 : BitVec 32 := Scalar.addi c0_i32_55 c36_i32_56
  let c1_i32_57 : BitVec 32 := 1#32
  ⟨c0_i32_55, v49, c1_i32_57⟩
def k1_off21 (k1_t10 : Fin k1_t10_loop.trips) : Fin 2 → Nat :=
  let c0_i32_91 : BitVec 32 := 0#32
  let v65 : Index := Scalar.indexCast c0_i32_91
  let c0_i32_55 : BitVec 32 := 0#32
  let c1_i32_57 : BitVec 32 := 1#32
  let arg8 : BitVec 32 := Scf.iv c0_i32_55 c1_i32_57 k1_t10
  let c16_i32_90 : BitVec 32 := 16#32
  let v64 : BitVec 32 := Scalar.muli arg8 c16_i32_90
  let v66 : Index := Scalar.indexCast v64
  ![0, v66.toNat]

def k1_chk10 (v69 : IVec S16 32) : Prop :=
  (∀ a x, ((![v69] : Fin 1 → IVec S16 32) a x).toNat < S8192.size a)
theorem k1_idx10_inb : ∀ (v69 : IVec S16 32) (k1_hw10 : k1_chk10 v69), ∀ a x, ((![v69] : Fin 1 → IVec S16 32) a x).toNat < S8192.size a := fun v69 k1_hw10 => k1_hw10
def k1_off22 (k1_t10 : Fin k1_t10_loop.trips) : Fin 2 → Nat :=
  let c9_i32 : BitVec 32 := 9#32
  let v72 : Index := Scalar.indexCast c9_i32
  let c0_i32_55 : BitVec 32 := 0#32
  let c1_i32_57 : BitVec 32 := 1#32
  let arg8 : BitVec 32 := Scf.iv c0_i32_55 c1_i32_57 k1_t10
  let c16_i32_92 : BitVec 32 := 16#32
  let v71 : BitVec 32 := Scalar.muli arg8 c16_i32_92
  let v73 : Index := Scalar.indexCast v71
  ![9, v73.toNat]
@[reducible] def k1_t11_loop : Scf.Loop 32 :=
  let c0_i32_60 : BitVec 32 := 0#32
  let c36_i32_61 : BitVec 32 := 36#32
  let v51 : BitVec 32 := Scalar.addi c0_i32_60 c36_i32_61
  let c1_i32_62 : BitVec 32 := 1#32
  ⟨c0_i32_60, v51, c1_i32_62⟩
def k1_off23 (k1_t11 : Fin k1_t11_loop.trips) : Fin 2 → Nat :=
  let c0_i32_91 : BitVec 32 := 0#32
  let v65 : Index := Scalar.indexCast c0_i32_91
  let c0_i32_60 : BitVec 32 := 0#32
  let c1_i32_62 : BitVec 32 := 1#32
  let arg8 : BitVec 32 := Scf.iv c0_i32_60 c1_i32_62 k1_t11
  let c16_i32_90 : BitVec 32 := 16#32
  let v64 : BitVec 32 := Scalar.muli arg8 c16_i32_90
  let v66 : Index := Scalar.indexCast v64
  ![0, v66.toNat]

def k1_chk11 (v69 : IVec S16 32) : Prop :=
  (∀ a x, ((![v69] : Fin 1 → IVec S16 32) a x).toNat < S8192.size a)
theorem k1_idx11_inb : ∀ (v69 : IVec S16 32) (k1_hw11 : k1_chk11 v69), ∀ a x, ((![v69] : Fin 1 → IVec S16 32) a x).toNat < S8192.size a := fun v69 k1_hw11 => k1_hw11
def k1_off24 (k1_t11 : Fin k1_t11_loop.trips) : Fin 2 → Nat :=
  let c10_i32 : BitVec 32 := 10#32
  let v72 : Index := Scalar.indexCast c10_i32
  let c0_i32_60 : BitVec 32 := 0#32
  let c1_i32_62 : BitVec 32 := 1#32
  let arg8 : BitVec 32 := Scf.iv c0_i32_60 c1_i32_62 k1_t11
  let c16_i32_92 : BitVec 32 := 16#32
  let v71 : BitVec 32 := Scalar.muli arg8 c16_i32_92
  let v73 : Index := Scalar.indexCast v71
  ![10, v73.toNat]
@[reducible] def k1_t12_loop : Scf.Loop 32 :=
  let c0_i32_65 : BitVec 32 := 0#32
  let c36_i32_66 : BitVec 32 := 36#32
  let v53 : BitVec 32 := Scalar.addi c0_i32_65 c36_i32_66
  let c1_i32_67 : BitVec 32 := 1#32
  ⟨c0_i32_65, v53, c1_i32_67⟩
def k1_off25 (k1_t12 : Fin k1_t12_loop.trips) : Fin 2 → Nat :=
  let c0_i32_91 : BitVec 32 := 0#32
  let v65 : Index := Scalar.indexCast c0_i32_91
  let c0_i32_65 : BitVec 32 := 0#32
  let c1_i32_67 : BitVec 32 := 1#32
  let arg8 : BitVec 32 := Scf.iv c0_i32_65 c1_i32_67 k1_t12
  let c16_i32_90 : BitVec 32 := 16#32
  let v64 : BitVec 32 := Scalar.muli arg8 c16_i32_90
  let v66 : Index := Scalar.indexCast v64
  ![0, v66.toNat]

def k1_chk12 (v69 : IVec S16 32) : Prop :=
  (∀ a x, ((![v69] : Fin 1 → IVec S16 32) a x).toNat < S8192.size a)
theorem k1_idx12_inb : ∀ (v69 : IVec S16 32) (k1_hw12 : k1_chk12 v69), ∀ a x, ((![v69] : Fin 1 → IVec S16 32) a x).toNat < S8192.size a := fun v69 k1_hw12 => k1_hw12
def k1_off26 (k1_t12 : Fin k1_t12_loop.trips) : Fin 2 → Nat :=
  let c11_i32 : BitVec 32 := 11#32
  let v72 : Index := Scalar.indexCast c11_i32
  let c0_i32_65 : BitVec 32 := 0#32
  let c1_i32_67 : BitVec 32 := 1#32
  let arg8 : BitVec 32 := Scf.iv c0_i32_65 c1_i32_67 k1_t12
  let c16_i32_92 : BitVec 32 := 16#32
  let v71 : BitVec 32 := Scalar.muli arg8 c16_i32_92
  let v73 : Index := Scalar.indexCast v71
  ![11, v73.toNat]
@[reducible] def k1_t13_loop : Scf.Loop 32 :=
  let c0_i32_70 : BitVec 32 := 0#32
  let c36_i32_71 : BitVec 32 := 36#32
  let v55 : BitVec 32 := Scalar.addi c0_i32_70 c36_i32_71
  let c1_i32_72 : BitVec 32 := 1#32
  ⟨c0_i32_70, v55, c1_i32_72⟩
def k1_off27 (k1_t13 : Fin k1_t13_loop.trips) : Fin 2 → Nat :=
  let c0_i32_91 : BitVec 32 := 0#32
  let v65 : Index := Scalar.indexCast c0_i32_91
  let c0_i32_70 : BitVec 32 := 0#32
  let c1_i32_72 : BitVec 32 := 1#32
  let arg8 : BitVec 32 := Scf.iv c0_i32_70 c1_i32_72 k1_t13
  let c16_i32_90 : BitVec 32 := 16#32
  let v64 : BitVec 32 := Scalar.muli arg8 c16_i32_90
  let v66 : Index := Scalar.indexCast v64
  ![0, v66.toNat]

def k1_chk13 (v69 : IVec S16 32) : Prop :=
  (∀ a x, ((![v69] : Fin 1 → IVec S16 32) a x).toNat < S8192.size a)
theorem k1_idx13_inb : ∀ (v69 : IVec S16 32) (k1_hw13 : k1_chk13 v69), ∀ a x, ((![v69] : Fin 1 → IVec S16 32) a x).toNat < S8192.size a := fun v69 k1_hw13 => k1_hw13
def k1_off28 (k1_t13 : Fin k1_t13_loop.trips) : Fin 2 → Nat :=
  let c12_i32 : BitVec 32 := 12#32
  let v72 : Index := Scalar.indexCast c12_i32
  let c0_i32_70 : BitVec 32 := 0#32
  let c1_i32_72 : BitVec 32 := 1#32
  let arg8 : BitVec 32 := Scf.iv c0_i32_70 c1_i32_72 k1_t13
  let c16_i32_92 : BitVec 32 := 16#32
  let v71 : BitVec 32 := Scalar.muli arg8 c16_i32_92
  let v73 : Index := Scalar.indexCast v71
  ![12, v73.toNat]
@[reducible] def k1_t14_loop : Scf.Loop 32 :=
  let c0_i32_75 : BitVec 32 := 0#32
  let c36_i32_76 : BitVec 32 := 36#32
  let v57 : BitVec 32 := Scalar.addi c0_i32_75 c36_i32_76
  let c1_i32_77 : BitVec 32 := 1#32
  ⟨c0_i32_75, v57, c1_i32_77⟩
def k1_off29 (k1_t14 : Fin k1_t14_loop.trips) : Fin 2 → Nat :=
  let c0_i32_91 : BitVec 32 := 0#32
  let v65 : Index := Scalar.indexCast c0_i32_91
  let c0_i32_75 : BitVec 32 := 0#32
  let c1_i32_77 : BitVec 32 := 1#32
  let arg8 : BitVec 32 := Scf.iv c0_i32_75 c1_i32_77 k1_t14
  let c16_i32_90 : BitVec 32 := 16#32
  let v64 : BitVec 32 := Scalar.muli arg8 c16_i32_90
  let v66 : Index := Scalar.indexCast v64
  ![0, v66.toNat]

def k1_chk14 (v69 : IVec S16 32) : Prop :=
  (∀ a x, ((![v69] : Fin 1 → IVec S16 32) a x).toNat < S8192.size a)
theorem k1_idx14_inb : ∀ (v69 : IVec S16 32) (k1_hw14 : k1_chk14 v69), ∀ a x, ((![v69] : Fin 1 → IVec S16 32) a x).toNat < S8192.size a := fun v69 k1_hw14 => k1_hw14
def k1_off30 (k1_t14 : Fin k1_t14_loop.trips) : Fin 2 → Nat :=
  let c13_i32 : BitVec 32 := 13#32
  let v72 : Index := Scalar.indexCast c13_i32
  let c0_i32_75 : BitVec 32 := 0#32
  let c1_i32_77 : BitVec 32 := 1#32
  let arg8 : BitVec 32 := Scf.iv c0_i32_75 c1_i32_77 k1_t14
  let c16_i32_92 : BitVec 32 := 16#32
  let v71 : BitVec 32 := Scalar.muli arg8 c16_i32_92
  let v73 : Index := Scalar.indexCast v71
  ![13, v73.toNat]
@[reducible] def k1_t15_loop : Scf.Loop 32 :=
  let c0_i32_80 : BitVec 32 := 0#32
  let c36_i32_81 : BitVec 32 := 36#32
  let v59 : BitVec 32 := Scalar.addi c0_i32_80 c36_i32_81
  let c1_i32_82 : BitVec 32 := 1#32
  ⟨c0_i32_80, v59, c1_i32_82⟩
def k1_off31 (k1_t15 : Fin k1_t15_loop.trips) : Fin 2 → Nat :=
  let c0_i32_91 : BitVec 32 := 0#32
  let v65 : Index := Scalar.indexCast c0_i32_91
  let c0_i32_80 : BitVec 32 := 0#32
  let c1_i32_82 : BitVec 32 := 1#32
  let arg8 : BitVec 32 := Scf.iv c0_i32_80 c1_i32_82 k1_t15
  let c16_i32_90 : BitVec 32 := 16#32
  let v64 : BitVec 32 := Scalar.muli arg8 c16_i32_90
  let v66 : Index := Scalar.indexCast v64
  ![0, v66.toNat]

def k1_chk15 (v69 : IVec S16 32) : Prop :=
  (∀ a x, ((![v69] : Fin 1 → IVec S16 32) a x).toNat < S8192.size a)
theorem k1_idx15_inb : ∀ (v69 : IVec S16 32) (k1_hw15 : k1_chk15 v69), ∀ a x, ((![v69] : Fin 1 → IVec S16 32) a x).toNat < S8192.size a := fun v69 k1_hw15 => k1_hw15
def k1_off32 (k1_t15 : Fin k1_t15_loop.trips) : Fin 2 → Nat :=
  let c14_i32 : BitVec 32 := 14#32
  let v72 : Index := Scalar.indexCast c14_i32
  let c0_i32_80 : BitVec 32 := 0#32
  let c1_i32_82 : BitVec 32 := 1#32
  let arg8 : BitVec 32 := Scf.iv c0_i32_80 c1_i32_82 k1_t15
  let c16_i32_92 : BitVec 32 := 16#32
  let v71 : BitVec 32 := Scalar.muli arg8 c16_i32_92
  let v73 : Index := Scalar.indexCast v71
  ![14, v73.toNat]
@[reducible] def k1_t16_loop : Scf.Loop 32 :=
  let c0_i32_85 : BitVec 32 := 0#32
  let c36_i32_86 : BitVec 32 := 36#32
  let v61 : BitVec 32 := Scalar.addi c0_i32_85 c36_i32_86
  let c1_i32_87 : BitVec 32 := 1#32
  ⟨c0_i32_85, v61, c1_i32_87⟩
def k1_off33 (k1_t16 : Fin k1_t16_loop.trips) : Fin 2 → Nat :=
  let c0_i32_91 : BitVec 32 := 0#32
  let v65 : Index := Scalar.indexCast c0_i32_91
  let c0_i32_85 : BitVec 32 := 0#32
  let c1_i32_87 : BitVec 32 := 1#32
  let arg8 : BitVec 32 := Scf.iv c0_i32_85 c1_i32_87 k1_t16
  let c16_i32_90 : BitVec 32 := 16#32
  let v64 : BitVec 32 := Scalar.muli arg8 c16_i32_90
  let v66 : Index := Scalar.indexCast v64
  ![0, v66.toNat]

def k1_chk16 (v69 : IVec S16 32) : Prop :=
  (∀ a x, ((![v69] : Fin 1 → IVec S16 32) a x).toNat < S8192.size a)
theorem k1_idx16_inb : ∀ (v69 : IVec S16 32) (k1_hw16 : k1_chk16 v69), ∀ a x, ((![v69] : Fin 1 → IVec S16 32) a x).toNat < S8192.size a := fun v69 k1_hw16 => k1_hw16
def k1_off34 (k1_t16 : Fin k1_t16_loop.trips) : Fin 2 → Nat :=
  let c15_i32 : BitVec 32 := 15#32
  let v72 : Index := Scalar.indexCast c15_i32
  let c0_i32_85 : BitVec 32 := 0#32
  let c1_i32_87 : BitVec 32 := 1#32
  let arg8 : BitVec 32 := Scf.iv c0_i32_85 c1_i32_87 k1_t16
  let c16_i32_92 : BitVec 32 := 16#32
  let v71 : BitVec 32 := Scalar.muli arg8 c16_i32_92
  let v73 : Index := Scalar.indexCast v71
  ![15, v73.toNat]
def k1_off35 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_89 : BitVec 32 := 16#32
  let v63 : BitVec 32 := Scalar.muli v1 c16_i32_89
  let c0_i32_90_r2 : BitVec 32 := 0#32
  ![v63.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x64x576 : Shape := ⟨3, ![8, 64, 576]⟩
abbrev S64x512 : Shape := ⟨2, ![64, 512]⟩
abbrev S8x64x576x1 : Shape := ⟨4, ![8, 64, 576, 1]⟩
abbrev S1x64x1x512 : Shape := ⟨4, ![1, 64, 1, 512]⟩
abbrev S8x64x576x512 : Shape := ⟨4, ![8, 64, 576, 512]⟩
abbrev S_ : Shape := ⟨0, ![]⟩
abbrev S8x576x512 : Shape := ⟨3, ![8, 576, 512]⟩
abbrev S8x576 : Shape := ⟨2, ![8, 576]⟩
abbrev S512x64 : Shape := ⟨2, ![512, 64]⟩
abbrev S4608 : Shape := ⟨1, ![4608]⟩
abbrev S4608x1 : Shape := ⟨2, ![4608, 1]⟩
abbrev S1 : Shape := ⟨1, ![1]⟩
abbrev S1x1 : Shape := ⟨2, ![1, 1]⟩
abbrev S4608x64 : Shape := ⟨2, ![4608, 64]⟩
abbrev S8x576x64 : Shape := ⟨3, ![8, 576, 64]⟩

abbrev nBuf : Space → Nat
  | .hbm => 43
  | .vmem => 0
  | .smem => 0
  | _ => 0

abbrev bufTy : (tb : Table) → Fin (tcTables nBuf tb) → BufTy
  | .hbm, ⟨0, _⟩ => ⟨S8x64x576, .f32⟩
  | .hbm, ⟨1, _⟩ => ⟨S64x512, .f32⟩
  | .hbm, ⟨2, _⟩ => ⟨S8x64x576x1, .f32⟩
  | .hbm, ⟨3, _⟩ => ⟨S1x64x1x512, .f32⟩
  | .hbm, ⟨4, _⟩ => ⟨S8x64x576x512, .f32⟩
  | .hbm, ⟨5, _⟩ => ⟨S8x64x576x512, .f32⟩
  | .hbm, ⟨6, _⟩ => ⟨S8x64x576x512, .f32⟩
  | .hbm, ⟨7, _⟩ => ⟨S8x64x576x512, .f32⟩
  | .hbm, ⟨8, _⟩ => ⟨S_, .f32⟩
  | .hbm, ⟨9, _⟩ => ⟨S8x576x512, .f32⟩
  | .hbm, ⟨10, _⟩ => ⟨S8x576x512, .f32⟩
  | .hbm, ⟨11, _⟩ => ⟨S8x576x512, .i32⟩
  | .hbm, ⟨12, _⟩ => ⟨S_, .f32⟩
  | .hbm, ⟨13, _⟩ => ⟨S_, .i32⟩
  | .hbm, ⟨14, _⟩ => ⟨S8x576, .f32⟩
  | .hbm, ⟨15, _⟩ => ⟨S8x576, .i32⟩
  | .hbm, ⟨16, _⟩ => ⟨S512x64, .f32⟩
  | .hbm, ⟨17, _⟩ => ⟨S4608, .i32⟩
  | .hbm, ⟨18, _⟩ => ⟨S_, .i32⟩
  | .hbm, ⟨19, _⟩ => ⟨S4608, .i32⟩
  | .hbm, ⟨20, _⟩ => ⟨S4608, .i1⟩
  | .hbm, ⟨21, _⟩ => ⟨S_, .i32⟩
  | .hbm, ⟨22, _⟩ => ⟨S4608, .i32⟩
  | .hbm, ⟨23, _⟩ => ⟨S4608, .i32⟩
  | .hbm, ⟨24, _⟩ => ⟨S4608, .i32⟩
  | .hbm, ⟨25, _⟩ => ⟨S4608x1, .i32⟩
  | .hbm, ⟨26, _⟩ => ⟨S1, .i32⟩
  | .hbm, ⟨27, _⟩ => ⟨S_, .i32⟩
  | .hbm, ⟨28, _⟩ => ⟨S4608x1, .i32⟩
  | .hbm, ⟨29, _⟩ => ⟨S4608x1, .i1⟩
  | .hbm, ⟨30, _⟩ => ⟨S1x1, .i32⟩
  | .hbm, ⟨31, _⟩ => ⟨S4608x1, .i32⟩
  | .hbm, ⟨32, _⟩ => ⟨S4608x1, .i1⟩
  | .hbm, ⟨33, _⟩ => ⟨S4608x1, .i1⟩
  | .hbm, ⟨34, _⟩ => ⟨S_, .i1⟩
  | .hbm, ⟨35, _⟩ => ⟨S4608, .i1⟩
  | .hbm, ⟨36, _⟩ => ⟨S4608x64, .f32⟩
  | .hbm, ⟨37, _⟩ => ⟨S4608x64, .i1⟩
  | .hbm, ⟨38, _⟩ => ⟨S_, .f32⟩
  | .hbm, ⟨39, _⟩ => ⟨S4608x64, .f32⟩
  | .hbm, ⟨40, _⟩ => ⟨S4608x64, .f32⟩
  | .hbm, ⟨41, _⟩ => ⟨S8x576x64, .f32⟩
  | .hbm, ⟨42, _⟩ => ⟨S8x64x576, .f32⟩
  | _, _ => ⟨S8x64x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v5 : Ref sig .tc := ⟨.hbm, 10, rfl⟩
abbrev main_call1_v0 : Ref sig .tc := ⟨.hbm, 11, rfl⟩
abbrev main_call1_cst : Ref sig .tc := ⟨.hbm, 12, rfl⟩
abbrev main_call1_c : Ref sig .tc := ⟨.hbm, 13, rfl⟩
abbrev main_call1_v1_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call2_c : Ref sig .tc := ⟨.hbm, 18, rfl⟩
abbrev main_call2_v0 : Ref sig .tc := ⟨.hbm, 19, rfl⟩
abbrev main_call2_v1 : Ref sig .tc := ⟨.hbm, 20, rfl⟩
abbrev main_call2_c_0 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_c_1 : Ref sig .tc := ⟨.hbm, 26, rfl⟩
abbrev main_call2_c_2 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_call2_c_3 : Ref sig .tc := ⟨.hbm, 34, rfl⟩
abbrev main_call2_v12 : Ref sig .tc := ⟨.hbm, 35, rfl⟩
abbrev main_call2_v13 : Ref sig .tc := ⟨.hbm, 36, rfl⟩
abbrev main_call2_v14 : Ref sig .tc := ⟨.hbm, 37, rfl⟩
abbrev main_call2_cst : Ref sig .tc := ⟨.hbm, 38, rfl⟩
abbrev main_call2_v15 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩

abbrev nD : Nat := 1
abbrev τ : Topo := Topo.v7x

variable {F : FTy → Type} [FloatOps F]
-- ==== Proof.Setup.lean ====
/-
  The set-up of the kernel's run: the resource algebra, the launch's facts, the arrays' locations, and what the one
  SparseCore call hands each tile and takes back.

  `main` transposes the first argument, calls the TensorCore kernel (one grid point per batch: the nearest code of each of
  576 positions), reshapes its result and the code table, and calls the SparseCore kernel, whose 32 tiles each gather sixteen
  rows of the result. The tile numbered `w` (twice its subcore number plus its SparseCore's) reads a quarter of the table and
  one batch's indices and writes the rows `16 w … 16 w + 15`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.ValueIdx
public import Idealize.ShloMosaic.Lib.Writes
public import Idealize.ShloMosaic.Lib.WritesUnit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on two SparseCores. -/
theorem nCore_zero : (K (F := F)).nCore 0 = 2 := rfl
/-- The call runs on sixteen tiles of each. -/
theorem nSub_zero : (K (F := F)).nSub 0 = 16 := rfl

/-- The launch's semaphores are distinct and none is one a kernel scopes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

/-- The assertions' algebra of this kernel. -/
abbrev MM (F : FTy → Type) : Type := MT nD τ sig (HIx 1) (Elt F) ℕ UU ℕ

local notation "𝕄" => MM F

abbrev EH : Emb UH (MM F) := embL
/-- The pipeline's rounds library, the left of the right factor. -/
def EP : Emb UP (MM F) := (Emb.inl : Emb UP (UP × Counters)).trans embR

instance EP_landsIn : (EP : Emb UP 𝕄).LandsIn (upEmb : UEmb _ 𝕄) := by unfold EP; infer_instance

/-! ## The arrays -/

/-- The first argument, the code table, the transposed argument, the TensorCore kernel's result, the indices, the flat
    table, the gathered rows and the result, as locations of device `d`. -/
abbrev xLoc (d : Dev nD) : Loc nD τ sig := (SparseCore.T d).loc main_arg0
abbrev eLoc (d : Dev nD) : Loc nD τ sig := (SparseCore.T d).loc main_arg1
abbrev xtLoc (d : Dev nD) : Loc nD τ sig := (SparseCore.T d).loc main_v0
abbrev iLoc (d : Dev nD) : Loc nD τ sig := (SparseCore.T d).loc main_v1
abbrev aLoc (d : Dev nD) : Loc nD τ sig := (SparseCore.T d).loc main_v2
abbrev tLoc (d : Dev nD) : Loc nD τ sig := (SparseCore.T d).loc main_v3
abbrev oLoc (d : Dev nD) : Loc nD τ sig := (SparseCore.T d).loc main_v4
abbrev rLoc (d : Dev nD) : Loc nD τ sig := (SparseCore.T d).loc main_v5

/-- What the SparseCore call leaves: entry `(R, o)` is entry `(R % 64, A (R / 64, o))` of the 64 × 512 table, read from the
    flat copy `E` of it. -/
def gathered (E : S32768.Idx → F .f32) (A : S8x576.Idx → BitVec 32) : S512x576.Idx → F .f32 := fun p =>
  E (ix1 (⟨((p 0).val % 64 * 512 + (A (ix2 (⟨(p 0).val / 64, by have h : (p 0).val < 512 := (p 0).isLt; omega⟩ : Fin 8) (p 1))).toNat) % 32768,
    Nat.mod_lt _ (by decide)⟩ : Fin 32768))

/-! ## What a tile is handed -/

/-- The rows of the result split into 32 blocks of sixteen. -/
theorem rows_div : 32 ∣ S512x576.size 0 := ⟨16, rfl⟩
/-- The sixteen rows of tile `w`. -/
abbrev rows (w : Fin 32) : Rect S512x576 := Rect.part (s := S512x576) (a₀ := 0) rows_div w

/-- The number of the tile on subcore `i` of SparseCore `c`. -/
def wid (c i : ℕ) : Fin 32 := ⟨(2 * i + c) % 32, Nat.mod_lt _ (by decide)⟩

variable (E : S32768.Idx → F .f32) (A : S8x576.Idx → BitVec 32)

/-- A tile's read share of the flat table and of the indices. -/
abbrev tShare (d : Dev nD) (w : Fin 32) : sProp 𝕄 := tLoc d ↦{Transfers.shareTok fullShare 32 w} E
abbrev aShare (d : Dev nD) (w : Fin 32) : sProp 𝕄 := aLoc d ↦{Transfers.shareTok fullShare 32 w} A
/-- A tile's rows of the result at `f`. -/
abbrev oRows (d : Dev nD) (w : Fin 32) (f : S512x576.Idx → F .f32) : sProp 𝕄 := oLoc d ↦[(rows w).set]{fullShare} f

/-- What tile `w` is handed: its read shares, and its rows at whatever they hold. -/
def goW (d : Dev nD) (w : Fin 32) : sProp 𝕄 := iprop(tShare E d w ∗ aShare A d w ∗ ∃ f, oRows d w f)
/-- What it hands back: its read shares, and its rows gathered. -/
def tdW (d : Dev nD) (w : Fin 32) : sProp 𝕄 := iprop(tShare E d w ∗ aShare A d w ∗ oRows d w (gathered E A))

instance goW_storable (d : Dev nD) (w : Fin 32) : BI.Storable (upEmb : UEmb _ 𝕄) (goW E A d w) := by unfold goW; infer_instance
instance tdW_storable (d : Dev nD) (w : Fin 32) : BI.Storable (upEmb : UEmb _ 𝕄) (tdW E A d w) := by unfold tdW; infer_instance

end Cert.Proof.Run
-- ==== Proof.Region.lean ====
/-
  The TensorCore call: one grid point per batch. At each the kernel reads the batch's block of the transposed argument and
  the whole code table, and leaves in the result's block what the body computes of the two.
-/
module

public import proofs.«01_k».proof.Proof.Setup
public import Idealize.ShloMosaic.Lib.VecWindow
public import Idealize.ShloMosaic.Lib.Pipeline.FrameBody
public import Idealize.ShloMosaic.Lib.Pipeline.ValueKit

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat Cfg Window BodyObligation cellOf)
open Idealize.ShloMosaic.ValueIdx

variable {F : FTy → Type} [FloatOps F]

local notation "𝕄" => MM F

/-! ## The body -/

/-- The body run on staging buffers that read `X` and `Z`: it leaves them, and leaves the result's buffer reading what the
    kernel computes of them. -/
theorem argmin_body_wp (d : Dev nD) (i : grid0.Coords)
    (M0 : Memref sig .tc .vmem S1x576x64 .f32) (h0 : M0.IsWhole) (M1 : Memref sig .tc .vmem S64x512 .f32) (h1 : M1.IsWhole)
    (M2 : Memref sig .tc .vmem S1x1x576 .i32) (h2 : M2.IsWhole)
    (X : S1x576x64.Idx → F .f32) (Z : S64x512.Idx → F .f32) (Y : S1x1x576.Idx → BitVec 32) (Q : PUnit → sProp 𝕄) :
    iprop(owns (d : Thread nD τ) M0 fullShare X ∗ owns (d : Thread nD τ) M1 fullShare Z ∗ owns (d : Thread nD τ) M2 fullShare Y
        ∗ (iprop(owns (d : Thread nD τ) M0 fullShare X ∗ owns (d : Thread nD τ) M1 fullShare Z
            ∗ owns (d : Thread nD τ) M2 fullShare (k0_pay1 X Z)) -∗ Q ⟨⟩))
      ⊢ wp frame (wpE (defs₀ (F := F)) Variants.none (d : Thread nD τ) none) Set.univ (cc0__argmin_body i M0 h0 M1 h1 M2 h2) Q := by
  rw [cc0__argmin_body_eq_skeleton]
  unfold cc0__argmin_body_skel owns
  iintro ⟨⟨%f0, %e0, H0⟩, ⟨%f1, %e1, H1⟩, ⟨%f2, %e2, H2⟩, Hk⟩
  sl_exec!
  sl_step
  iapply Hk
  isplitl [H0]
  · iexists f0; isplitr; · ipureintro; exact e0
    iexact H0
  isplitl [H1]
  · iexists f1; isplitr; · ipureintro; exact e1
    iexact H1
  iexists _; isplitr; swap; (· iexact H2)
  ipureintro
  unfold argmin_body_wp.sl.H2_1
  rw [View.read_writes_full, View.readAt_full, View.readAt_full, e0, e1]

/-! ## The proof data -/

variable (V : (c : Dev nD) → (b : Ref sig .tc) → Buf (Elt F) ((c : Thread nD τ).loc b))

/-- The batch's block of the transposed argument, and the whole code table, as a point's fetches stage them. -/
abbrev stgX (c : Dev nD) (t : Fin cfg0.N) : (cfg0.win 0).block.Idx → Elt F (cfg0.win 0).elt :=
  ((cfg0.win 0).blk t).view.read (Elt F) (V c main_v0)
abbrev stgE (c : Dev nD) (t : Fin cfg0.N) : (cfg0.win 1).block.Idx → Elt F (cfg0.win 1).elt :=
  ((cfg0.win 1).blk t).view.read (Elt F) (V c main_arg1)

/-- What the core owes throughout: the SparseCore call's dues. -/
abbrev dues (c : Dev nD) : CellTallies nD τ sig (HIx 1) := (K (F := F)).Otc c 0

/-- The wait records the core may hold around the region: those below the SparseCore call's levels. -/
abbrev low (c : Dev nD) : Set (SemLoc sig × HIx 1) := {p | (K (F := F)).lev ((c : Thread nD τ), p.1) p.2 ≤ 0}

/-- The proof data of the call: the argument's block and the table left as fetched, the result's block at what the body
    computes of them. -/
def dat (c : Dev nD) : Dat τ (Elt F) (HIx 1) ℕ UU ℕ cfg0 c where
  A w := V c (Pipeline.arrRef spec0 w)
  after w t := match w with
    | ⟨0, _⟩ => stgX V c t
    | ⟨1, _⟩ => stgE V c t
    | ⟨2, _⟩ => k0_pay1 (stgX V c t) (stgE V c t)
  Φ _ := Pipeline.scopedRest (Ix := HIx 1) (Name := ℕ) (U := UU) (Lvl := ℕ) (Val := Elt F) spec0 c
  q _ := fullShare
  owed _ := dues (F := F) c
  recorded _ := low (F := F) c

variable (adm : (p : Fin 1) → (pcfgs (F := F) p).Adm)

/-- The program's one pipeline's. -/
def pdats : (p : Fin 1) → (c : Dev nD) → Dat τ (Elt F) (HIx 1) ℕ UU ℕ (Pipeline.pin (pcfgs (F := F)) adm p) c
  | ⟨0, _⟩ => fun c => dat V c

/-- The argument's buffer holds the batch's block at every point. -/
theorem before_x (c : Dev nD) (t : Fin cfg0.N) (f) : (dat V c).before 0 t f = stgX V c t :=
  (dat V c).before_fetched 0 t (fetch0_0 t) f

/-- The table's buffer holds the table at every point, though it is fetched at the first alone. -/
theorem before_e (c : Dev nD) (t : Fin cfg0.N) (f) : (dat V c).before 1 t f = stgE V c t :=
  (dat V c).before_in_eq_fetched 1 rfl (fun _ => rfl) (fun _ _ _ => rfl) (fun _ => rfl) t f

/-- What the data says each buffer holds after the body. -/
theorem after_x (c : Dev nD) (t : Fin cfg0.N) : (dat V c).after 0 t = stgX V c t := by dsimp only [dat]
theorem after_e (c : Dev nD) (t : Fin cfg0.N) : (dat V c).after 1 t = stgE V c t := by dsimp only [dat]
theorem after_o (c : Dev nD) (t : Fin cfg0.N) : (dat V c).after 2 t = k0_pay1 (stgX V c t) (stgE V c t) := by dsimp only [dat]

/-- The body's obligation at every point. -/
theorem body_obligation (c : Dev nD) : BodyObligation (dat V c) (defs₀ (F := F)) 𝒱₀ (none : HIx 1) Set.univ := fun t => by
  rw [bigSep_W0, bigSep_W0]
  rw [show (dat V c).Φ t.succ = (dat V c).Φ t.castSucc from rfl,
    show (dat V c).owesAt (none : HIx 1) t.succ = (dat V c).owesAt (none : HIx 1) t.castSucc from rfl]
  iintro ⟨HΦ, Howes, ⟨%d0, H0⟩, ⟨%d1, H1⟩, ⟨%d2, H2⟩⟩
  rw [before_x, before_e]
  iapply (argmin_body_wp (F := F) c (grid0.coords t) _ (hstage0_0 ((cfg0.slots t 0).cast nbuf0_0)) _ (hstage0_1 ((cfg0.slots t 1).cast nbuf0_1)) _
    (hstage0_2 ((cfg0.slots t 2).cast nbuf0_2)) (stgX V c t) (stgE V c t) _ _)
  isplitl [H0]; · iexact H0
  isplitl [H1]; · iexact H1
  isplitl [H2]; · iexact H2
  rw [after_x, after_e, after_o]
  iintro ⟨H0, H1, H2⟩
  isplitl [HΦ]; · iexact HΦ
  isplitl [Howes]; · iexact Howes
  isplitl [H0]; · iexact H0
  isplitl [H1]; · iexact H1
  iexact H2

/-! ## The region -/

/-- The indices the call computes: for each batch and position what the body computes of the batch's block and the table. -/
def idxOf (X : S8x576x64.Idx → F .f32) (Z : S64x512.Idx → F .f32) : S8x1x576.Idx → BitVec 32 := fun i =>
  k0_pay1 (fun y : S1x576x64.Idx => X (ValueIdx.ix3 (i 0) (y 1) (y 2))) Z (ValueIdx.ix3 (0 : Fin 1) (0 : Fin 1) (i 2))

/-- The block each point's window is at. -/
theorem index_x : ∀ t : Fin grid0.N, win0_0.index t = ![t.val, 0, 0] := by decide +kernel
theorem index_e : ∀ t : Fin grid0.N, win0_1.index t = ![0, 0] := by decide +kernel
theorem index_o : ∀ t : Fin grid0.N, win0_2.index t = ![t.val, 0, 0] := by decide +kernel

/-- The table's block is the table. -/
theorem stgE_eq (c : Dev nD) (t : Fin cfg0.N) : stgE V c t = V c main_arg1 := by
  funext z
  refine congrArg (V c main_arg1) ?_
  funext a
  apply Fin.ext
  fin_cases a <;> blk_simp [index_e] <;> simp

/-- The argument's block at a point is the batch of that number. -/
theorem stgX_eq (c : Dev nD) (t : Fin cfg0.N) (b : Fin 8) (hb : b.val = t.val) :
    stgX V c t = fun y : S1x576x64.Idx => V c main_v0 (ValueIdx.ix3 b (y 1) (y 2)) := by
  funext z
  refine congrArg (V c main_v0) ?_
  have h0 : (z 0).val < 1 := (z 0).isLt
  funext a
  apply Fin.ext
  fin_cases a <;> blk_simp [index_x] <;> simp [hb] <;> omega

/-- The result's array after the call. -/
theorem arr_out (c : Dev nD) : (dat V c).arrAt 2 cfg0.N = idxOf (V c main_v0) (V c main_arg1) := by
  refine (dat V c).arrAt_eq_of_covers 2 _ (by decide +kernel) fun t hf y => ?_
  blk_simp
  have h0 : (y 0).val < 1 := (y 0).isLt
  have h1 : (y 1).val < 1 := (y 1).isLt
  have e0 : ((win0_2.blk t).view.emb y 0).val = t.val := by blk_simp [index_o]
  have e2 : ((win0_2.blk t).view.emb y 2).val = (y 2).val := by blk_simp [index_o]
  rw [after_o, stgE_eq, stgX_eq V c t ((win0_2.blk t).view.emb y 0) e0]
  unfold idxOf
  refine congrArg _ ?_
  funext a
  apply Fin.ext
  fin_cases a
  · show (y 0).val = 0; omega
  · show (y 1).val = 0; omega
  · exact e2.symm

/-- The arrays' contents the call leaves: the indices in its result's array, the rest as it was. -/
def Vout : (c : Dev nD) → (b : Ref sig .tc) → Buf (Elt F) ((c : Thread nD τ).loc b) := fun c =>
  Function.update (V c) main_v1 (idxOf (V c main_v0) (V c main_arg1))

theorem Vout_out (c : Dev nD) : Vout V c main_v1 = idxOf (V c main_v0) (V c main_arg1) := Function.update_self _ _ _
theorem Vout_ne (c : Dev nD) (b : Ref sig .tc) (h : b ≠ main_v1) : Vout V c b = V c b := Function.update_of_ne h _ _

/-- The core's dues, its wait records below the SparseCore call's levels. -/
abbrev owesLow (c : Dev nD) : sProp 𝕄 :=
  iprop(∃ W, ⌜(K (F := F)).WBelow (T c) W 0⌝ ∗ owes (c : Thread nD τ) (dues (F := F) c) W)

/-- None of the dues is at the index of the kernels' own waits. -/
theorem dues_none (c : Dev nD) (g : GSem nD τ sig) : dues (F := F) c g none = 0 := by
  by_contra h
  exact Nat.not_succ_le_zero _ ((K (F := F)).lev_of_Otc_pos (Nat.pos_of_ne_zero h))

set_option backward.isDefEq.respectTransparency.types false in
/-- The region, from every array at `V` to every array at `Vout V`, the core's dues carried through. -/
def reg : Pipeline.RegionSeg (pcfgs (F := F)) adm (pdats V adm) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro _ _ _ 0 c fun w s t =>
    (K (F := F)).mayWait_none _ (dues_none c)
  pre c := iprop(unscopedBufs c (V c) ∗ owesLow (F := F) c)
  post c := iprop(unscopedBufs c (Vout V c) ∗ owesLow (F := F) c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) (launch0).win (launch0).arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest spec0 c from rfl]
    iintro ⟨-, -, Hr⟩; iexact Hr
  hout c := by
    rw [Pipeline.ownSems0_none, show (pdats V adm 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V adm) ((pdats V adm 0 c).share_full fun _ => rfl) (V c) (Vout V c) ((pdats V adm 0 c).arrAt · cfg0.N)
      (fun w => by
        fin_cases w
        · exact ((pdats V adm 0 c).arrAt_in 0 rfl _).trans (Vout_ne V c main_v0 (by decide)).symm
        · exact ((pdats V adm 0 c).arrAt_in 1 rfl _).trans (Vout_ne V c main_arg1 (by decide)).symm
        · exact (arr_out V c).trans (Vout_out V c).symm)
      (fun b hb => Vout_ne V c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact le_rfl
    iexact HO

/-- The pipeline reads no table. -/
abbrev adm₀ : (p : Fin 1) → (pcfgs (F := F) p).Adm := fun p => (cfgs p).toPCfg_adm

/-- The TensorCore call in the whole program: from the core's boundary, every array at `V`, the dues and the pipeline's
    ghost state, to every array at `Vout V`. -/
theorem region_wp [∀ e, Nonempty (Elt F e)] (c : Dev nD) (Q : PUnit → sProp 𝕄) :
    iprop((iprop(boundary (c : Thread nD τ) ∗ unscopedBufs c (Vout V c) ∗ owesLow (F := F) c) -∗ Q ⟨⟩)
        ∗ boundary (c : Thread nD τ) ∗ (unscopedBufs c (V c) ∗ owesLow (F := F) c) ∗ levAts (K (F := F)).L (K (F := F)).lev
        ∗ Pipeline.cellsGhost (Pipeline.pin (pcfgs (F := F)) adm₀) EP 0 c ∗ Pipeline.toksInit (Pipeline.pin (pcfgs (F := F)) adm₀) EP 0 c)
      ⊢ wp frame (wpE ((K (F := F)).defs (D (F := F))) 𝒱 (SparseCore.T c) none) Set.univ
          (Prog.lift (.customCall (SparseCore.inner (Pipeline.entry 0)) ())) Q := by
  have hwp := Pipeline.RegionSeg.wp (pcfgs (F := F)) adm₀ (pdats V adm₀) (none : HIx 1) cellOf_inj EP defs₀ 𝒱₀
    (K (F := F)).L (K (F := F)).lev (reg V adm₀) c none (fun u hu => nomatch hu) (fun x => .ret x) Q
  have hl := (K (F := F)).wp_liftProg (D (F := F)) 𝒱 (SparseCore.T c) Set.univ none (.op (.customCall (Pipeline.entry 0) ()) fun x => .ret x) Q
  refine (?_ : _ ⊢ _).trans hl
  refine (?_ : _ ⊢ _).trans hwp
  rw [show (reg V adm₀).pre c = iprop(unscopedBufs c (V c) ∗ owesLow (F := F) c) from rfl,
    show (reg V adm₀).post c = iprop(unscopedBufs c (Vout V c) ∗ owesLow (F := F) c) from rfl, wp_ret]
  iintro ⟨HQ, H⟩
  isplitl [HQ]
  · iintro Hb
    imodintro
    iapply HQ; iexact Hb
  iexact H

end Cert.Proof.Run
-- ==== Proof.Gather.lean ====
/-
  One row of the gather: the loop of 36 trips that reads sixteen indices at a time, adds the row's offset into the tile's
  table, reads the table at those sixteen places and stores them into the row of the tile's output scratch.

  The kernel's sixteen loops are this one at sixteen rows. What a loop leaves is stated by `fill`: the scratch with its first
  so many blocks of sixteen elements, in row-major order, gathered.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MM F
local notation "sT" => (Memref.whole Cert.KernelIdeal.cc1_scratch0 : Memref Cert.KernelIdeal.sig Kind.scVector Space.vmem Cert.KernelIdeal.S8192 EltTy.f32)
local notation "sI" => (Memref.whole Cert.KernelIdeal.cc1_scratch1 : Memref Cert.KernelIdeal.sig Kind.scVector Space.vmem Cert.KernelIdeal.S1x576 EltTy.i32)
local notation "sO" => (Memref.whole Cert.KernelIdeal.cc1_scratch2 : Memref Cert.KernelIdeal.sig Kind.scVector Space.vmem Cert.KernelIdeal.S16x576 EltTy.f32)

/-! ## The output scratch as the loops fill it -/

/-- Entry `(r, o)` of the gathered block: the table at the index of position `o` plus the offset `512 r` of row `r`. -/
def picked (tb : S8192.Idx → F .f32) (ix : S1x576.Idx → BitVec 32) : S16x576.Idx → F .f32 := fun p =>
  tb (ix1 (⟨((ix (ix2 (0 : Fin 1) (p 1))).toNat + 512 * (p 0).val) % 8192, Nat.mod_lt _ (by decide)⟩ : Fin 8192))

/-- The scratch, `f` to begin with, after the first `k` stores of sixteen elements, in row-major order. -/
def fill (tb : S8192.Idx → F .f32) (ix : S1x576.Idx → BitVec 32) (k : ℕ) (f : S16x576.Idx → F .f32) : S16x576.Idx → F .f32 := fun p =>
  if (p 0).val * 576 + (p 1).val < 16 * k then picked tb ix p else f p

/-- After no store, the scratch as it was. -/
theorem fill_zero (tb : S8192.Idx → F .f32) (ix : S1x576.Idx → BitVec 32) (f : S16x576.Idx → F .f32) : fill tb ix 0 f = f := by
  funext p; simp [fill]

/-- After all 576 stores, the gathered block. -/
theorem fill_all (tb : S8192.Idx → F .f32) (ix : S1x576.Idx → BitVec 32) (f : S16x576.Idx → F .f32) : fill tb ix 576 f = picked tb ix := by
  funext p
  have h0 : (p 0).val < 16 := (p 0).isLt
  have h1 : (p 1).val < 576 := (p 1).isLt
  unfold fill; rw [if_pos (by omega)]

/-! ## A trip -/

/-- The sixteen places a trip reads: the loaded indices plus the row's offset. -/
def rowPay (w : BitVec 32) (v : Vec F S1x16 .i32) : IVec S16 32 :=
  addi (shapeCast S16 v shapeCasts_S1x16_S16) (broadcast S16 w)

/-- The places lie inside the table. -/
abbrev rowChk (v : IVec S16 32) : Prop := ∀ a x, ((![v] : Fin 1 → IVec S16 32) a x).toNat < S8192.size a

variable [FloatOps F]

/-- A trip of a row's loop, the offsets of its load and its store and the row's offset in the table being parameters. -/
def rowTrip (c : Fin τ.nSC) (s : Fin τ.nSub) (w : BitVec 32) (dec : ∀ v, Decidable (rowChk v))
    (o1 : Fin 2 → ℕ) (h1 : ∀ a, o1 a + S1x16.size a ≤ S1x576.size a) (o2 : Fin 2 → ℕ) (h2 : ∀ a, o2 a + S1x16.size a ≤ S16x576.size a) :
    Prog (TpuEff nD τ sig (Elt F) Λ₀ (.scVector c s)) (BitVec 32) := do
  let v ← Prog.lift (.load sI (Rect.unit (s := S1x576) o1 S1x16.size h1).toLoadRect (View.loadsAt_vmem h_S1x16))
  have hw : rowChk (rowPay (F := F) w v) := (← Prog.lift (TpuEff.assume (rowChk (rowPay (F := F) w v)) (dec _))).down
  let g ← SparseCore.vectorLoadIdx sT ![rowPay (F := F) w v] hw (View.loads_vmem h_S8192)
  let _ ← Prog.lift (.load sO (Rect.unit (s := S16x576) o2 S1x16.size h2).toLoadRect (View.loadsAt_vmem h_S1x16))
  Prog.lift (.store sO (Rect.unit (s := S16x576) o2 S1x16.size h2) (shapeCast S1x16 g shapeCasts_S16_S1x16) Finset.univ
    (View.stores_vmem_bits_univ h_S1x16 rfl) (.inl rfl))
  pure 0#32

section Trip

variable (d : Dev nD) (c : Fin τ.nSC) (s : Fin τ.nSub)

/-- The tile's three scratches: the table `tb`, the indices `ix`, the output at `f`. -/
abbrev scratch (tb : S8192.Idx → F .f32) (ix : S1x576.Idx → BitVec 32) (f : S16x576.Idx → F .f32) : sProp 𝕄 :=
  iprop(((V d c s).loc cc1_scratch0 ↦{fullShare} tb) ∗ ((V d c s).loc cc1_scratch1 ↦{fullShare} ix) ∗ ((V d c s).loc cc1_scratch2 ↦{fullShare} f))

/-- The place lane `x` of a trip reads: its index plus the row's offset. -/
theorem rowPay_toNat (ix : S1x576.Idx → BitVec 32) (hix : ∀ o, (ix o).toNat < 512) (r : ℕ) (hr : r < 16) (t : ℕ) (ht : t < 36)
    (o1 : Fin 2 → ℕ) (h1 : ∀ a, o1 a + S1x16.size a ≤ S1x576.size a) (e1 : o1 = ![0, 16 * t])
    (v : Vec F S1x16 .i32) (hv : ∀ y, v y = ix ((Rect.unit (s := S1x576) o1 S1x16.size h1).emb y)) (x : S16.Idx) (o : Fin 576)
    (ho : o.val = 16 * t + (x 0).val) :
    (rowPay (F := F) (BitVec.ofNat 32 (512 * r)) v x).toNat = (ix (ix2 (0 : Fin 1) o)).toNat + 512 * r := by
  subst e1
  show (shapeCast S16 v shapeCasts_S1x16_S16 x + BitVec.ofNat 32 (512 * r)).toNat = _
  have e : shapeCast S16 v shapeCasts_S1x16_S16 x = ix (ix2 (0 : Fin 1) o) := by
    refine (shapeCast_dropUnit_apply (n := 1) ![16] v shapeCasts_S1x16_S16 x).trans ((hv _).trans (congrArg ix ?_))
    funext a; apply Fin.ext
    match a with
    | ⟨0, _⟩ => rfl
    | ⟨1, _⟩ =>
      show 16 * t + 1 * (x 0).val = o.val
      omega
  rw [e, BitVec.toNat_add, BitVec.toNat_ofNat]
  have := hix (ix2 (0 : Fin 1) o)
  omega

/-- One trip: sixteen more elements of the row gathered. -/
theorem rowTrip_wp (tb : S8192.Idx → F .f32) (ix : S1x576.Idx → BitVec 32) (hix : ∀ o, (ix o).toNat < 512) (f : S16x576.Idx → F .f32)
    (r : ℕ) (hr : r < 16) (t : ℕ) (ht : t < 36) (dec : ∀ v, Decidable (rowChk v))
    (o1 : Fin 2 → ℕ) (h1 : ∀ a, o1 a + S1x16.size a ≤ S1x576.size a) (e1 : o1 = ![0, 16 * t])
    (o2 : Fin 2 → ℕ) (h2 : ∀ a, o2 a + S1x16.size a ≤ S16x576.size a) (e2 : o2 = ![r, 16 * t]) :
    scratch d c s tb ix (fill tb ix (36 * r + t) f)
      ⊢ wp frame (wpE (defs₀ (F := F)) 𝒱₀ (V d c s) none) Set.univ (rowTrip c s (BitVec.ofNat 32 (512 * r)) dec o1 h1 o2 h2)
          fun _ => scratch d c s tb ix (fill tb ix (36 * r + t + 1) f) := by
  unfold rowTrip
  simp only [Prog.lift, Prog.bind_op, Prog.bind_ret, Prog.pure_eq_ret]
  iintro ⟨Ht, Hi, Ho⟩
  iapply (wp_load_rect 𝒱₀ (V d c s) none Set.univ (m := sI) (r := Rect.unit (s := S1x576) o1 S1x16.size h1) (S := Finset.univ) (f := ix) (Finset.subset_univ _)) $$ Hi
  iintro Hi
  set v : Vec F S1x16 .i32 := ((sI).access (Rect.unit (s := S1x576) o1 S1x16.size h1)).read (Elt F) ix with hvdef
  have hv : ∀ y, v y = ix ((Rect.unit (s := S1x576) o1 S1x16.size h1).emb y) := fun y => rfl
  have hp : ∀ (x : S16.Idx) (o : Fin 576), o.val = 16 * t + (x 0).val →
      (rowPay (F := F) (BitVec.ofNat 32 (512 * r)) v x).toNat = (ix (ix2 (0 : Fin 1) o)).toNat + 512 * r :=
    fun x o ho => rowPay_toNat ix hix r hr t ht o1 h1 e1 v hv x o ho
  have hchk : rowChk (rowPay (F := F) (BitVec.ofNat 32 (512 * r)) v) := by
    intro a x
    match a with
    | ⟨0, _⟩ =>
      have hx : (x 0).val < 16 := (x 0).isLt
      show (rowPay (F := F) (BitVec.ofNat 32 (512 * r)) v x).toNat < 8192
      rw [hp x ⟨16 * t + (x 0).val, by omega⟩ rfl]
      have := hix (ix2 (0 : Fin 1) (⟨16 * t + (x 0).val, by omega⟩ : Fin 576))
      omega
  rw [wp_assume_of _ _ _ _ hchk]
  iapply (SparseCore.wp_vectorLoadIdx 𝒱₀ (V d c s) none Set.univ (base := sT) (S := Finset.univ) (q := fullShare) (f := tb) (Finset.subset_univ _)) $$ Ht
  iintro Ht
  iapply (wp_load_rect 𝒱₀ (V d c s) none Set.univ (m := sO) (r := Rect.unit (s := S16x576) o2 S1x16.size h2) (S := Finset.univ) (Finset.subset_univ _)) $$ Ho
  iintro Ho
  iapply (wp_store_writes₀ 𝒱₀ (V d c s) none Set.univ (m := sO) (r := Rect.unit (s := S16x576) o2 S1x16.size h2) (S := Finset.univ) (Finset.subset_univ _)) $$ Ho
  iintro Ho
  rw [wp_ret]; imodintro
  isplitl [Ht]; · iexact Ht
  isplitl [Hi]; · iexact Hi
  refine (Entails.of_eq ?_)
  refine congrArg (fun g : S16x576.Idx → F .f32 => ((V d c s).loc cc1_scratch2 ↦{fullShare} g : sProp 𝕄)) ?_
  funext p
  have hp0 : (p 0).val < 16 := (p 0).isLt
  have hp1 : (p 1).val < 576 := (p 1).isLt
  refine (show (sO).view.writes (Elt F) _ _ p = View.read (Elt F) (sO).view ((sO).view.writes (Elt F) _ _) p from rfl).trans ?_
  refine (View.read_writes_cons_unit (sO).view _ h2 _ [] p e2).trans ?_
  split
  · rename_i h
    have ha := h 0
    have hb := h 1
    simp at ha hb
    have e0 : (p 0).val = r := by omega
    unfold fill; rw [if_pos (by rw [e0]; omega)]
    refine (shapeCast_addUnit_apply (n := 1) ![16] _ shapeCasts_S16_S1x16 _).trans ?_
    rw [Memref.read_access_whole]
    refine congrArg tb ?_
    funext a; apply Fin.ext
    match a with
    | ⟨0, _⟩ =>
      refine (hp _ (p 1) ?_).trans ?_
      · show (p 1).val = 16 * t + ((p 1).val - 16 * t)
        omega
      · show _ = ((ix (ix2 (0 : Fin 1) (p 1))).toNat + 512 * (p 0).val) % 8192
        have := hix (ix2 (0 : Fin 1) (p 1))
        rw [e0, Nat.mod_eq_of_lt (by omega)]
  · rename_i h
    show fill tb ix (36 * r + t) f p = _
    unfold fill
    have hne : ¬ ((p 0).val = r ∧ 16 * t ≤ (p 1).val ∧ (p 1).val < 16 * t + 16) := by
      rintro ⟨g0, g1, g2⟩
      refine h fun a => ?_
      match a with
      | ⟨0, _⟩ => exact ⟨g0.ge, by show (p 0).val < r + 1; omega⟩
      | ⟨1, _⟩ => exact ⟨g1, g2⟩
    by_cases hl : (p 0).val * 576 + (p 1).val < 16 * (36 * r + t)
    · rw [if_pos hl, if_pos (by omega)]
    · rw [if_neg hl, if_neg (by omega)]

/-! ## A row's loop -/

/-- A row's loop, in front of any program: it takes the scratch with the rows before it gathered to the scratch with its row
    gathered too. -/
theorem rowLoop {β : Type} (tb : S8192.Idx → F .f32) (ix : S1x576.Idx → BitVec 32) (hix : ∀ o, (ix o).toNat < 512) (f : S16x576.Idx → F .f32)
    (r r' : ℕ) (hr : r < 16) (er : r' = r + 1) (dec : ∀ v, Decidable (rowChk v)) (lp : Scf.Loop 32) (ok : lp.OK) (hn : lp.trips = 36)
    (o1 : Fin lp.trips → Fin 2 → ℕ) (h1 : ∀ t a, o1 t a + S1x16.size a ≤ S1x576.size a) (e1 : ∀ t, o1 t = ![0, 16 * t.val])
    (o2 : Fin lp.trips → Fin 2 → ℕ) (h2 : ∀ t a, o2 t a + S1x16.size a ≤ S16x576.size a) (e2 : ∀ t, o2 t = ![r, 16 * t.val])
    (body : Fin lp.trips → BitVec 32 → Prog (TpuEff nD τ sig (Elt F) Λ₀ (.scVector c s)) (BitVec 32))
    (hb : ∀ t a, body t a = rowTrip c s (BitVec.ofNat 32 (512 * r)) dec (o1 t) (h1 t) (o2 t) (h2 t))
    {kk : BitVec 32 → Prog (TpuEff nD τ sig (Elt F) Λ₀ (.scVector c s)) β} {Q : β → sProp 𝕄} :
    scratch d c s tb ix (fill tb ix (36 * r) f)
      ⊢ iprop((∀ acc, scratch d c s tb ix (fill tb ix (36 * r') f) -∗ wp frame (wpE (defs₀ (F := F)) 𝒱₀ (V d c s) none) Set.univ (kk acc) Q)
          -∗ wp frame (wpE (defs₀ (F := F)) 𝒱₀ (V d c s) none) Set.univ (Scf.Loop.for lp ok 0#32 body >>= kk) Q) := by
  subst er
  have h := Scf.wp_for_bind (M := 𝕄) frame (wpE (defs₀ (F := F)) 𝒱₀ (V d c s) none) Set.univ lp.lb lp.ub lp.st ok 0#32 body
    (fun n _ => scratch d c s tb ix (fill tb ix (36 * r + n) f))
    (fun t acc => by
      rw [hb]
      exact rowTrip_wp d c s tb ix hix f r hr t.val (lt_of_lt_of_eq t.isLt hn) dec (o1 t) (h1 t) (e1 t) (o2 t) (h2 t) (e2 t))
    (kk := kk) (Q := Q)
  rw [show Scf.trips lp.lb lp.ub lp.st = 36 from hn] at h
  exact h

end Trip

end Cert.Proof.Run
-- ==== Proof.Tile.lean ====
/-
  The SparseCore kernel's body on one tile: the tile's quarter of the flat table and its batch's indices fetched into its
  scratches, the sixteen rows' loops, and the output scratch written out to its sixteen rows.
-/
module

public import proofs.«01_k».proof.Proof.Gather

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F
local notation "tV" => (Memref.whole Cert.KernelIdeal.main_v3_scv : Memref Cert.KernelIdeal.sig Kind.scVector Space.hbm Cert.KernelIdeal.S32768 EltTy.f32)
local notation "aV" => (Memref.whole Cert.KernelIdeal.main_v2_scv : Memref Cert.KernelIdeal.sig Kind.scVector Space.hbm Cert.KernelIdeal.S8x576 EltTy.i32)
local notation "oV" => (Memref.whole Cert.KernelIdeal.main_v4_scv : Memref Cert.KernelIdeal.sig Kind.scVector Space.hbm Cert.KernelIdeal.S512x576 EltTy.f32)
local notation "sT" => (Memref.whole Cert.KernelIdeal.cc1_scratch0 : Memref Cert.KernelIdeal.sig Kind.scVector Space.vmem Cert.KernelIdeal.S8192 EltTy.f32)
local notation "sI" => (Memref.whole Cert.KernelIdeal.cc1_scratch1 : Memref Cert.KernelIdeal.sig Kind.scVector Space.vmem Cert.KernelIdeal.S1x576 EltTy.i32)
local notation "sO" => (Memref.whole Cert.KernelIdeal.cc1_scratch2 : Memref Cert.KernelIdeal.sig Kind.scVector Space.vmem Cert.KernelIdeal.S16x576 EltTy.f32)

/-! ## The slices a tile addresses -/

/-- The offset of a tile's quarter of the flat table. -/
theorem off1_eq : ∀ L : grid1.Coords, k1_off1 L = ![(2 * (L 1).val + (L 0).val) % 4 * 8192] := by decide +kernel
/-- The offset of a tile's batch of indices. -/
theorem off2_eq : ∀ L : grid1.Coords, k1_off2 L = ![(2 * (L 1).val + (L 0).val) / 4, 0] := by decide +kernel

section Tile

variable (d : Dev nD) (L : grid1.Coords)

abbrev cV (L : grid1.Coords) : Fin τ.nSC := (L 0).castLE hcore1
abbrev jV (L : grid1.Coords) : Fin τ.nSub := (L 1).castLE hsub1
/-- The tile's number. -/
abbrev wL (L : grid1.Coords) : Fin 32 := wid (L 0).val (L 1).val

theorem wL_val : (wL L).val = 2 * (L 1).val + (L 0).val := by
  have h0 : (L 0).val < 2 := (L 0).isLt
  have h1 : (L 1).val < 16 := (L 1).isLt
  show (2 * (L 1).val + (L 0).val) % 32 = _
  omega

/-- The rows the tile writes, as the body slices them. -/
abbrev outK (L : grid1.Coords) : Memref sig .scVector .hbm S16x576 .f32 :=
  (oV).slice (Rect.unit (s := S512x576) (k1_off35 L) S16x576.size (k1_off35_inb L)) (fun _ => rfl)

theorem outRect_eq : Rect.unit (s := S512x576) (k1_off35 L) S16x576.size (k1_off35_inb L) = rows (wL L) := by
  have hw := wL_val L
  unfold rows Rect.part Rect.block
  congr 1 <;> funext a
  · rw [k1_off35_eq]
    match a with
    | 0 =>
      show 32 * (L 1).val + 16 * (L 0).val = (wL L).val * 16
      omega
    | 1 => simp [Shape.partIx, Shape.partSize]
  · match a with
    | 0 => rfl
    | 1 => simp [Shape.partSize]

theorem set_outK : (outK L).view.set = (rows (wL L)).set := by
  show ((View.whole (main_v4_scv : Ref sig .scVector)).slice (Rect.unit (s := S512x576) (k1_off35 L) S16x576.size (k1_off35_inb L))).set = _
  rw [View.set_slice, outRect_eq]; exact Finset.map_refl

theorem pts_outK (f : S512x576.Idx → F .f32) :
    ((outK L).view.loc (V d (cV L) (jV L)) ↦[(outK L).view.set]{fullShare} f : sProp 𝕄) = oRows d (wL L) f := by
  rw [set_outK]

/-- The table's quarter and the batch's indices that the tile fetches. -/
def tbOf (E : S32768.Idx → F .f32) (w : Fin 32) : S8192.Idx → F .f32 := fun j =>
  E (ix1 (⟨w.val % 4 * 8192 + (j 0).val, by have h : (j 0).val < 8192 := (j 0).isLt; omega⟩ : Fin 32768))
def ixOf (A : S8x576.Idx → BitVec 32) (w : Fin 32) : S1x576.Idx → BitVec 32 := fun o =>
  A (ix2 (⟨w.val / 4, by omega⟩ : Fin 8) (o 1))

theorem fetched_tb (E : S32768.Idx → F .f32) (f : S8192.Idx → F .f32) :
    (sT).view.write (Elt F) f (((tV).slice (Rect.unit (s := S32768) (k1_off1 L) S8192.size (k1_off1_inb L)) (fun _ => rfl)).view.read (Elt F) E) Finset.univ
      = tbOf E (wL L) := by
  refine (View.write_whole_univ _ _ _).trans ?_
  funext j
  refine congrArg E ?_
  funext a; apply Fin.ext
  match a with
  | ⟨0, _⟩ =>
    show k1_off1 L 0 + 1 * (j 0).val = (wL L).val % 4 * 8192 + (j 0).val
    have e : k1_off1 L 0 = (2 * (L 1).val + (L 0).val) % 4 * 8192 := by rw [off1_eq]; rfl
    have hw := wL_val L
    rw [e]; omega

theorem fetched_ix (A : S8x576.Idx → BitVec 32) (f : S1x576.Idx → BitVec 32) :
    (sI).view.write (Elt F) f (((aV).slice (Rect.unit (s := S8x576) (k1_off2 L) S1x576.size (k1_off2_inb L)) (fun _ => rfl)).view.read (Elt F) A) Finset.univ
      = ixOf A (wL L) := by
  refine (View.write_whole_univ _ _ _).trans ?_
  funext j
  refine congrArg A ?_
  funext a; apply Fin.ext
  have h0 : (j 0).val < 1 := (j 0).isLt
  match a with
  | ⟨0, _⟩ =>
    show k1_off2 L 0 + 1 * (j 0).val = (wL L).val / 4
    have e : k1_off2 L 0 = (2 * (L 1).val + (L 0).val) / 4 := by rw [off2_eq]; rfl
    have hw := wL_val L
    rw [e]; omega
  | ⟨1, _⟩ =>
    show k1_off2 L 1 + 1 * (j 1).val = (j 1).val
    have e : k1_off2 L 1 = 0 := by rw [off2_eq]; rfl
    rw [e]; omega

/-- The gathered block's entry at row `x 0` of tile `w` is the gathered array's entry at row `16 w + x 0`. -/
theorem picked_gathered (E : S32768.Idx → F .f32) (A : S8x576.Idx → BitVec 32) (hA : ∀ i, (A i).toNat < 512) (w : Fin 32)
    (x : S16x576.Idx) (p : S512x576.Idx) (q0 : (p 0).val = 16 * w.val + (x 0).val) (q1 : p 1 = x 1) :
    picked (tbOf E w) (ixOf A w) x = gathered E A p := by
  have hx0 : (x 0).val < 16 := (x 0).isLt
  have hp0 : (p 0).val < 512 := (p 0).isLt
  have hl : w.val < 32 := w.isLt
  have ea : ixOf A w (ix2 (0 : Fin 1) (x 1)) = A (ix2 (⟨(p 0).val / 64, by omega⟩ : Fin 8) (p 1)) := by
    refine congrArg A ?_
    funext a; apply Fin.ext
    match a with
    | ⟨0, _⟩ =>
      show w.val / 4 = (p 0).val / 64
      omega
    | ⟨1, _⟩ => exact congrArg Fin.val q1.symm
  have hlt := hA (ix2 (⟨(p 0).val / 64, by omega⟩ : Fin 8) (p 1))
  unfold picked gathered tbOf
  refine congrArg E ?_
  funext a; apply Fin.ext
  match a with
  | ⟨0, _⟩ =>
    show w.val % 4 * 8192 + ((ixOf A w (ix2 (0 : Fin 1) (x 1))).toNat + 512 * (x 0).val) % 8192
      = ((p 0).val % 64 * 512 + (A (ix2 (⟨(p 0).val / 64, by omega⟩ : Fin 8) (p 1))).toNat) % 32768
    rw [ea]
    omega

/-- Reading the result through a slice of it is reading it at the slice's places. -/
theorem read_outSlice (o : Fin 2 → ℕ) (ho : ∀ a, o a + S16x576.size a ≤ S512x576.size a) (g : S512x576.Idx → F .f32) (x : S16x576.Idx) :
    View.read (Elt F) ((oV).slice (Rect.unit (s := S512x576) o S16x576.size ho) (fun _ => rfl)).view g x
      = g (((oV).slice (Rect.unit (s := S512x576) o S16x576.size ho) (fun _ => rfl)).view.emb x) := rfl

/-- A block of sixteen rows written over the gathered block of tile `w`, at that tile's rows, holds the gathered array there. -/
theorem written_at (E : S32768.Idx → F .f32) (A : S8x576.Idx → BitVec 32) (hA : ∀ i, (A i).toNat < 512) (w : Fin 32)
    (o : Fin 2 → ℕ) (ho : ∀ a, o a + S16x576.size a ≤ S512x576.size a) (e : o = ![16 * w.val, 0]) (f : S512x576.Idx → F .f32)
    (p : S512x576.Idx) (hp : p ∈ ((oV).slice (Rect.unit (s := S512x576) o S16x576.size ho) (fun _ => rfl)).view.set) :
    ((oV).slice (Rect.unit (s := S512x576) o S16x576.size ho) (fun _ => rfl)).view.writes (Elt F) f
        [⟨Rect.whole S16x576, picked (tbOf E w) (ixOf A w)⟩] p = gathered E A p := by
  obtain ⟨x, -, hx⟩ := Finset.mem_map.mp hp
  have h := View.read_writes_cons_unit_of_mem (Val := Elt F) ((oV).slice (Rect.unit (s := S512x576) o S16x576.size ho) (fun _ => rfl)).view f
    (off := fun _ => 0) (off' := fun _ => 0) (size := S16x576.size) (fun a => (Nat.zero_add _).le) (picked (tbOf E w) (ixOf A w)) [] x x rfl
    (fun a => (Nat.zero_add _).symm)
  rw [← hx]
  have q0 : ((((oV).slice (Rect.unit (s := S512x576) o S16x576.size ho) (fun _ => rfl)).view.emb x) 0).val = 16 * w.val + (x 0).val := by
    show o 0 + 1 * (x 0).val = _
    have e0 : o 0 = 16 * w.val := by rw [e]; rfl
    rw [e0, Nat.one_mul]
  have q1 : (((oV).slice (Rect.unit (s := S512x576) o S16x576.size ho) (fun _ => rfl)).view.emb x) 1 = x 1 := by
    apply Fin.ext
    show o 1 + 1 * (x 1).val = _
    have e0 : o 1 = 0 := by rw [e]; rfl
    rw [e0]; omega
  rw [read_outSlice] at h
  exact h.trans (picked_gathered E A hA w x _ q0 q1)

/-- What the tile writes out is the gathered block of its rows. -/
theorem written_out (E : S32768.Idx → F .f32) (A : S8x576.Idx → BitVec 32) (hA : ∀ i, (A i).toNat < 512) (f : S512x576.Idx → F .f32)
    (X : S16x576.Idx → F .f32) (hX : X = picked (tbOf E (wL L)) (ixOf A (wL L))) :
    ((outK L).view.loc (V d (cV L) (jV L)) ↦[(outK L).view.set]{fullShare} (outK L).view.writes (Elt F) f [⟨Rect.whole S16x576, X⟩] : sProp 𝕄)
      = oRows d (wL L) (gathered E A) := by
  rw [← pts_outK]
  subst hX
  refine pointsTo_congr fun p hp => ?_
  exact written_at E A hA (wL L) (k1_off35 L) (k1_off35_inb L) (by rw [k1_off35_eq, wL_val]; congr 1; omega) f p hp

/-! ## The tile's own storage -/

/-- The tile's three scoped cells: of the table's fetch, the indices' fetch and the write-out. -/
abbrev cTcell (d : Dev nD) (c : Fin τ.nSC) (i : Fin τ.nSub) : GSem nD τ sig := (V d c i, .dma cc1_scoped0.sem)
abbrev cIcell (d : Dev nD) (c : Fin τ.nSC) (i : Fin τ.nSub) : GSem nD τ sig := (V d c i, .dma cc1_scoped1.sem)
abbrev cOcell (d : Dev nD) (c : Fin τ.nSC) (i : Fin τ.nSub) : GSem nD τ sig := (V d c i, .dma cc1_scoped2.sem)

theorem ownSems0_V :
    (ownSems0 (V d (cV L) (jV L)) : sProp 𝕄)
      = iprop(semVal (cTcell d (cV L) (jV L)) 0 ∗ semVal (cIcell d (cV L) (jV L)) 0 ∗ semVal (cOcell d (cV L) (jV L)) 0
          ∗ bigSep ((((ownCells (V d (cV L) (jV L))).erase (cTcell d (cV L) (jV L))).erase (cIcell d (cV L) (jV L))).erase (cOcell d (cV L) (jV L)))
              fun g => semVal g 0) := by
  unfold SparseCore.Cfg.ownSems0
  rw [SparseCore.bigSep_erase' ((mem_ownCells (g := cTcell d (cV L) (jV L))).mpr ⟨rfl, by
      show (SemLoc.dma cc1_scoped0.sem : SemLoc sig).isScoped .scVector = true; decide⟩),
    SparseCore.bigSep_erase' (Finset.mem_erase.mpr ⟨by simp [cTcell, cIcell]; decide, (mem_ownCells (g := cIcell d (cV L) (jV L))).mpr ⟨rfl, by
      show (SemLoc.dma cc1_scoped1.sem : SemLoc sig).isScoped .scVector = true; decide⟩⟩),
    SparseCore.bigSep_erase' (Finset.mem_erase.mpr ⟨by simp [cIcell, cOcell]; decide, Finset.mem_erase.mpr ⟨by simp [cTcell, cOcell]; decide,
      (mem_ownCells (g := cOcell d (cV L) (jV L))).mpr ⟨rfl, by show (SemLoc.dma cc1_scoped2.sem : SemLoc sig).isScoped .scVector = true; decide⟩⟩⟩)]

/-- The tile's own buffers are its three scratches, each at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

variable [FloatOps F]

theorem pts_sT (f : Buf (Elt F) ((V d (cV L) (jV L)).loc cc1_scratch0)) :
    ((sT).view.loc (V d (cV L) (jV L)) ↦{fullShare} f : sProp 𝕄) = (V d (cV L) (jV L)).loc cc1_scratch0 ↦{fullShare} f := rfl
theorem pts_sI (f : Buf (Elt F) ((V d (cV L) (jV L)).loc cc1_scratch1)) :
    ((sI).view.loc (V d (cV L) (jV L)) ↦{fullShare} f : sProp 𝕄) = (V d (cV L) (jV L)).loc cc1_scratch1 ↦{fullShare} f := rfl
theorem pts_sO (f : Buf (Elt F) ((V d (cV L) (jV L)).loc cc1_scratch2)) :
    ((sO).view.loc (V d (cV L) (jV L)) ↦{fullShare} f : sProp 𝕄) = (V d (cV L) (jV L)).loc cc1_scratch2 ↦{fullShare} f := rfl
theorem pts_tV (q : PosShare TreeShare) (f : Buf (Elt F) (tLoc d)) :
    ((tV).view.loc (V d (cV L) (jV L)) ↦{q} f : sProp 𝕄) = tLoc d ↦{q} f := rfl
theorem pts_aV (q : PosShare TreeShare) (f : Buf (Elt F) (aLoc d)) :
    ((aV).view.loc (V d (cV L) (jV L)) ↦{q} f : sProp 𝕄) = aLoc d ↦{q} f := rfl

/-- The task on one tile: from its read shares of the table and the indices and its rows at anything to the rows gathered. -/
theorem tile_body (E : S32768.Idx → F .f32) (A : S8x576.Idx → BitVec 32) (hA : ∀ i, (A i).toNat < 512)
    (hF : (K (F := F)).Facts) (O : CellTallies nD τ sig (HIx 1)) (W : Waits sig (HIx 1)) (hO : ∀ g, O g none = 0) :
    iprop(levAts (K (F := F)).L (K (F := F)).lev ∗ emp ∗ goW E A d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather L tV (Memref.isWhole_whole _) aV (Memref.isWhole_whole _) oV (Memref.isWhole_whole _)
            sT (Memref.isWhole_whole _) sI (Memref.isWhole_whole _) sO (Memref.isWhole_whole _) cc1_scoped0 cc1_scoped1 cc1_scoped2)
          fun _ => iprop(tdW E A d (wL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold goW tdW
  rw [cc1_gather_eq_skeleton]
  unfold cc1_gather_skel
  rw [k1_part1_eq_skeleton, k1_part2_eq_skeleton]
  simp only [k1_part3_eq_skeleton]
  unfold k1_part1_skel k1_part2_skel k1_part3_skel
  simp only [Prog.lift, Prog.bind_op, Prog.bind_ret, Prog.pure_eq_ret, Prog.bind_assoc]
  iintro ⟨#Hlv, -, ⟨Ht, Ha, ⟨%f0, Ho⟩⟩, ⟨⟨%ft, Hst⟩, ⟨%fi, Hsi⟩, ⟨%fo, Hso⟩, Hbufs⟩, ⟨HsemT, HsemI, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tV (F := F) d L _ _).symm) $$ Ht
  ihave Ha' := (Entails.of_eq (pts_aV (F := F) d L _ _).symm) $$ Ha
  ihave Ho' := (Entails.of_eq (pts_outK (F := F) d L _).symm) $$ Ho
  ihave Hst' := (Entails.of_eq (pts_sT (F := F) d L _).symm) $$ Hst
  ihave Hsi' := (Entails.of_eq (pts_sI (F := F) d L _).symm) $$ Hsi
  ihave Hso' := (Entails.of_eq (pts_sO (F := F) d L _).symm) $$ Hso
  sl_exec
  have hix : ∀ o, (ixOf A (wL L) o).toNat < 512 := fun o => hA _
  ihave Hs : scratch d (cV L) (jV L) (tbOf E (wL L)) (ixOf A (wL L)) (fill (tbOf E (wL L)) (ixOf A (wL L)) (36 * 0) fo) $$ [Hst' Hsi' Hso']
  · rw [fill_zero]
    isplitl [Hst']
    · iapply (Entails.of_eq (congrArg (fun g : S8192.Idx → F .f32 => ((V d (cV L) (jV L)).loc cc1_scratch0 ↦{fullShare} g : sProp 𝕄)) (fetched_tb L E ft)))
      iexact Hst'
    isplitl [Hsi']
    · iapply (Entails.of_eq (congrArg (fun g : S1x576.Idx → BitVec 32 => ((V d (cV L) (jV L)).loc cc1_scratch1 ↦{fullShare} g : sProp 𝕄)) (fetched_ix L A fi)))
      iexact Hsi'
    iexact Hso'
  iapply (rowLoop d (cV L) (jV L) (tbOf E (wL L)) (ixOf A (wL L)) hix fo 0 1 (by decide) rfl (fun v => k1_chk1.dec v) k1_t1_loop k1_t1_ok (by decide)
    k1_off3 k1_off3_inb k1_off3_eq k1_off4 k1_off4_inb k1_off4_eq _ (fun _ _ => rfl)) $$ Hs
  iintro %a1 Hs
  iapply (rowLoop d (cV L) (jV L) (tbOf E (wL L)) (ixOf A (wL L)) hix fo 1 2 (by decide) rfl (fun v => k1_chk2.dec v) k1_t2_loop k1_t2_ok (by decide)
    k1_off5 k1_off5_inb k1_off5_eq k1_off6 k1_off6_inb k1_off6_eq _ (fun _ _ => rfl)) $$ Hs
  iintro %a2 Hs
  iapply (rowLoop d (cV L) (jV L) (tbOf E (wL L)) (ixOf A (wL L)) hix fo 2 3 (by decide) rfl (fun v => k1_chk3.dec v) k1_t3_loop k1_t3_ok (by decide)
    k1_off7 k1_off7_inb k1_off7_eq k1_off8 k1_off8_inb k1_off8_eq _ (fun _ _ => rfl)) $$ Hs
  iintro %a3 Hs
  iapply (rowLoop d (cV L) (jV L) (tbOf E (wL L)) (ixOf A (wL L)) hix fo 3 4 (by decide) rfl (fun v => k1_chk4.dec v) k1_t4_loop k1_t4_ok (by decide)
    k1_off9 k1_off9_inb k1_off9_eq k1_off10 k1_off10_inb k1_off10_eq _ (fun _ _ => rfl)) $$ Hs
  iintro %a4 Hs
  iapply (rowLoop d (cV L) (jV L) (tbOf E (wL L)) (ixOf A (wL L)) hix fo 4 5 (by decide) rfl (fun v => k1_chk5.dec v) k1_t5_loop k1_t5_ok (by decide)
    k1_off11 k1_off11_inb k1_off11_eq k1_off12 k1_off12_inb k1_off12_eq _ (fun _ _ => rfl)) $$ Hs
  iintro %a5 Hs
  iapply (rowLoop d (cV L) (jV L) (tbOf E (wL L)) (ixOf A (wL L)) hix fo 5 6 (by decide) rfl (fun v => k1_chk6.dec v) k1_t6_loop k1_t6_ok (by decide)
    k1_off13 k1_off13_inb k1_off13_eq k1_off14 k1_off14_inb k1_off14_eq _ (fun _ _ => rfl)) $$ Hs
  iintro %a6 Hs
  iapply (rowLoop d (cV L) (jV L) (tbOf E (wL L)) (ixOf A (wL L)) hix fo 6 7 (by decide) rfl (fun v => k1_chk7.dec v) k1_t7_loop k1_t7_ok (by decide)
    k1_off15 k1_off15_inb k1_off15_eq k1_off16 k1_off16_inb k1_off16_eq _ (fun _ _ => rfl)) $$ Hs
  iintro %a7 Hs
  iapply (rowLoop d (cV L) (jV L) (tbOf E (wL L)) (ixOf A (wL L)) hix fo 7 8 (by decide) rfl (fun v => k1_chk8.dec v) k1_t8_loop k1_t8_ok (by decide)
    k1_off17 k1_off17_inb k1_off17_eq k1_off18 k1_off18_inb k1_off18_eq _ (fun _ _ => rfl)) $$ Hs
  iintro %a8 Hs
  iapply (rowLoop d (cV L) (jV L) (tbOf E (wL L)) (ixOf A (wL L)) hix fo 8 9 (by decide) rfl (fun v => k1_chk9.dec v) k1_t9_loop k1_t9_ok (by decide)
    k1_off19 k1_off19_inb k1_off19_eq k1_off20 k1_off20_inb k1_off20_eq _ (fun _ _ => rfl)) $$ Hs
  iintro %a9 Hs
  iapply (rowLoop d (cV L) (jV L) (tbOf E (wL L)) (ixOf A (wL L)) hix fo 9 10 (by decide) rfl (fun v => k1_chk10.dec v) k1_t10_loop k1_t10_ok (by decide)
    k1_off21 k1_off21_inb k1_off21_eq k1_off22 k1_off22_inb k1_off22_eq _ (fun _ _ => rfl)) $$ Hs
  iintro %a10 Hs
  iapply (rowLoop d (cV L) (jV L) (tbOf E (wL L)) (ixOf A (wL L)) hix fo 10 11 (by decide) rfl (fun v => k1_chk11.dec v) k1_t11_loop k1_t11_ok (by decide)
    k1_off23 k1_off23_inb k1_off23_eq k1_off24 k1_off24_inb k1_off24_eq _ (fun _ _ => rfl)) $$ Hs
  iintro %a11 Hs
  iapply (rowLoop d (cV L) (jV L) (tbOf E (wL L)) (ixOf A (wL L)) hix fo 11 12 (by decide) rfl (fun v => k1_chk12.dec v) k1_t12_loop k1_t12_ok (by decide)
    k1_off25 k1_off25_inb k1_off25_eq k1_off26 k1_off26_inb k1_off26_eq _ (fun _ _ => rfl)) $$ Hs
  iintro %a12 Hs
  iapply (rowLoop d (cV L) (jV L) (tbOf E (wL L)) (ixOf A (wL L)) hix fo 12 13 (by decide) rfl (fun v => k1_chk13.dec v) k1_t13_loop k1_t13_ok (by decide)
    k1_off27 k1_off27_inb k1_off27_eq k1_off28 k1_off28_inb k1_off28_eq _ (fun _ _ => rfl)) $$ Hs
  iintro %a13 Hs
  iapply (rowLoop d (cV L) (jV L) (tbOf E (wL L)) (ixOf A (wL L)) hix fo 13 14 (by decide) rfl (fun v => k1_chk14.dec v) k1_t14_loop k1_t14_ok (by decide)
    k1_off29 k1_off29_inb k1_off29_eq k1_off30 k1_off30_inb k1_off30_eq _ (fun _ _ => rfl)) $$ Hs
  iintro %a14 Hs
  iapply (rowLoop d (cV L) (jV L) (tbOf E (wL L)) (ixOf A (wL L)) hix fo 14 15 (by decide) rfl (fun v => k1_chk15.dec v) k1_t15_loop k1_t15_ok (by decide)
    k1_off31 k1_off31_inb k1_off31_eq k1_off32 k1_off32_inb k1_off32_eq _ (fun _ _ => rfl)) $$ Hs
  iintro %a15 Hs
  iapply (rowLoop d (cV L) (jV L) (tbOf E (wL L)) (ixOf A (wL L)) hix fo 15 16 (by decide) rfl (fun v => k1_chk16.dec v) k1_t16_loop k1_t16_ok (by decide)
    k1_off33 k1_off33_inb k1_off33_eq k1_off34 k1_off34_inb k1_off34_eq _ (fun _ _ => rfl)) $$ Hs
  iintro %a16 Hs
  rw [show 36 * 16 = 576 from rfl, fill_all]
  icases Hs with ⟨Hst, Hsi, Hso⟩
  ihave Hso' := (Entails.of_eq (pts_sO (F := F) d L _).symm) $$ Hso
  sl_exec
  sl_step
  isplitl [Ht' Ha' Ho']
  · isplitl [Ht']; · iexact Ht'
    isplitl [Ha']; · iexact Ha'
    iapply (Entails.of_eq (written_out (F := F) d L E A hA f0 _ rfl)); iexact Ho'
  isplitl [Hst Hsi Hso' Hbufs]
  · isplitl [Hst]; · iexists _; iexact Hst
    isplitl [Hsi]; · iexists _; iexact Hsi
    isplitl [Hso']; · iexists _; iexact Hso'
    iexact Hbufs
  isplitl [HsemT HsemI HsemO Hsems]
  · isplitl [HsemT]; · iexact HsemT
    isplitl [HsemI]; · iexact HsemI
    isplitl [HsemO]; · iexact HsemO
    iexact Hsems
  iexists _; isplitr
  swap; · iexact HO
  ipureintro; intro p _
  rcases p.2 with _ | q
  · exact .inr (.inl rfl)
  · exact .inr (.inr (congrArg some (Subsingleton.elim q 0)))

/-! ## The obligation -/

/-- The call's payloads: a SparseCore is handed what its sixteen tiles are, and hands back what they do. -/
def P (E : Dev nD → S32768.Idx → F .f32) (A : Dev nD → S8x576.Idx → BitVec 32) : (K (F := F)).Pay (nD := nD) (Val := Elt F) (Name := ℕ) (U := UU) where
  st := fun _ d c => bigSep Finset.univ fun i : Fin 16 => goW (E d) (A d) d (wid c.val i.val)
  dn := fun _ d c => bigSep Finset.univ fun i : Fin 16 => tdW (E d) (A d) d (wid c.val i.val)
  go := fun _ d c i => goW (E d) (A d) d (wid c.val i.val)
  td := fun _ d c i => tdW (E d) (A d) d (wid c.val i.val)
  x := fun _ _ => iprop(emp)

instance P_storable (E : Dev nD → S32768.Idx → F .f32) (A : Dev nD → S8x576.Idx → BitVec 32) : (P E A).IsStorable where
  st _ d c := by unfold P; infer_instance
  dn _ d c := by unfold P; infer_instance
  go _ d c i := by unfold P; infer_instance
  td _ d c i := by unfold P; infer_instance

/-- A tile's coordinates in the grid of the call. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather (coordsV c s)
          tV (Memref.isWhole_whole _) aV (Memref.isWhole_whole _) oV (Memref.isWhole_whole _)
          sT (Memref.isWhole_whole _) sI (Memref.isWhole_whole _) sO (Memref.isWhole_whole _) cc1_scoped0 cc1_scoped1 cc1_scoped2) ⟨⟩ c s := rfl

/-- Every tile does its task. -/
theorem tileObl (E : Dev nD → S32768.Idx → F .f32) (A : Dev nD → S8x576.Idx → BitVec 32) (hA : ∀ d i, (A d i).toNat < 512)
    (hF : (K (F := F)).Facts) : (K (F := F)).TileObl (D (F := F)) 𝒱 (P E A) v₀ 0 := by
  intro d c i O W hO _ _
  simp only [show (P E A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (E d) (A d) (hA d) hF O W hO

/-- What a SparseCore is handed is what its tiles are, and what they leave is what it hands back. -/
theorem vecSplit (E : Dev nD → S32768.Idx → F .f32) (A : Dev nD → S8x576.Idx → BitVec 32) : (K (F := F)).VecSplit (P E A) 0 := by
  refine SparseCore.Cfg.VecSplit.of_plain fun d c => ?_
  show (bigSep Finset.univ fun i : Fin 16 => goW (E d) (A d) d (wid c.val i.val)) ⊢ |={Set.univ}=> iprop((bigSep Finset.univ fun i : Fin 16 => goW (E d) (A d) d (wid c.val i.val))
      ∗ ((bigSep Finset.univ fun i : Fin 16 => tdW (E d) (A d) d (wid c.val i.val)) -∗ bigSep Finset.univ fun i : Fin 16 => tdW (E d) (A d) d (wid c.val i.val)))
  iintro H
  imodintro
  isplitl [H]; · iexact H
  iintro H; iexact H

end Tile

end Cert.Proof.Run
-- ==== Proof.Split.lean ====
/-
  The SparseCore call's arrays dealt to its 32 tiles and gathered from them: the table and the indices as read shares, the
  result as blocks of sixteen rows, regrouped by SparseCore and subcore.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MM F

/-! ## The tiles' numbers -/

/-- A SparseCore and a subcore give each tile number once. -/
theorem wid_bijective : Function.Bijective fun p : Fin 2 × Fin 16 => wid p.1.val p.2.val := by decide

/-- One resource per tile number is one per SparseCore and subcore. -/
theorem bigSep_wid (Φ : Fin 32 → sProp 𝕄) :
    bigSep Finset.univ Φ = bigSep Finset.univ fun c : Fin 2 => bigSep Finset.univ fun i : Fin 16 => Φ (wid c.val i.val) := by
  rw [bigSep_univ_equiv (Equiv.ofBijective _ wid_bijective) Φ, bigSep_univ_prod]
  rfl

/-! ## The result's rows -/

/-- Two tiles' rows are disjoint. -/
theorem rows_disj : ∀ w ∈ (Finset.univ : Finset (Fin 32)), ∀ w' ∈ (Finset.univ : Finset (Fin 32)), w ≠ w' → Disjoint (rows w).set (rows w').set :=
  fun _ _ _ _ h => Rect.part_disjoint rows_div h

/-- The tiles' rows are all of the result's. -/
theorem rows_all : (Finset.univ : Finset (Fin 32)).biUnion (fun w => (rows w).set) = Finset.univ := Rect.biUnion_part rows_div

/-- The result whole is the tiles' rows of it. -/
theorem out_rows (d : Dev nD) (f : S512x576.Idx → F .f32) :
    (oLoc d ↦{fullShare} f : sProp 𝕄) = bigSep Finset.univ fun w : Fin 32 => oRows d w f := by
  rw [← pointsTo_biUnion Finset.univ (ℓ := oLoc d) (fun w : Fin 32 => (rows w).set) rows_disj, rows_all]; try rfl

/-! ## Dealing and gathering -/

variable (E : S32768.Idx → F .f32) (A : S8x576.Idx → BitVec 32)

/-- What stays with the TensorCore while the tiles read: the rest of the shares of the table and of the indices. -/
def kept (d : Dev nD) : sProp 𝕄 :=
  iprop((tLoc d ↦{Transfers.shareDrop fullShare 32} E) ∗ aLoc d ↦{Transfers.shareDrop fullShare 32} A)

/-- The rows at known contents are the rows at some. -/
theorem out_some (d : Dev nD) (f : S512x576.Idx → F .f32) :
    (bigSep Finset.univ fun w : Fin 32 => oRows d w f) ⊢ (bigSep Finset.univ fun w : Fin 32 => iprop(∃ f, oRows d w f) : sProp 𝕄) := by
  refine bigSep_mono fun w _ => (?_ : (_ : sProp 𝕄) ⊢ _)
  iintro H
  iexists f; iexact H

/-- The three arrays dealt to the tiles. -/
theorem deal (d : Dev nD) (f : S512x576.Idx → F .f32) :
    iprop((tLoc d ↦{fullShare} E) ∗ (aLoc d ↦{fullShare} A) ∗ oLoc d ↦{fullShare} f)
      ⊢ (iprop(kept E A d ∗ bigSep Finset.univ fun c : Fin 2 => bigSep Finset.univ fun i : Fin 16 => goW E A d (wid c.val i.val)) : sProp 𝕄) := by
  rw [← bigSep_wid (fun w => goW E A d w)]
  unfold kept goW
  rw [bigSep_sep', bigSep_sep', out_rows]
  iintro ⟨Ht, Ha, Ho⟩
  ihave Ht' := (Transfers.pointsTo_toks_split (ℓ := tLoc d) (S := Finset.univ) (f := E) fullShare 32) $$ Ht
  ihave Ha' := (Transfers.pointsTo_toks_split (ℓ := aLoc d) (S := Finset.univ) (f := A) fullShare 32) $$ Ha
  icases Ht' with ⟨Ht0, Ht1⟩
  icases Ha' with ⟨Ha0, Ha1⟩
  isplitl [Ht0 Ha0]
  · isplitl [Ht0] <;> iassumption
  isplitl [Ht1]; · iexact Ht1
  isplitl [Ha1]; · iexact Ha1
  iapply (out_some d f) $$ Ho

/-- The three arrays gathered from the tiles. -/
theorem undeal (d : Dev nD) :
    iprop(kept E A d ∗ bigSep Finset.univ fun c : Fin 2 => bigSep Finset.univ fun i : Fin 16 => tdW E A d (wid c.val i.val))
      ⊢ (iprop((tLoc d ↦{fullShare} E) ∗ (aLoc d ↦{fullShare} A) ∗ oLoc d ↦{fullShare} gathered E A) : sProp 𝕄) := by
  rw [← bigSep_wid (fun w => tdW E A d w)]
  unfold kept tdW
  rw [bigSep_sep', bigSep_sep', out_rows]
  iintro ⟨⟨Ht0, Ha0⟩, Ht1, Ha1, Ho⟩
  isplitl [Ht0 Ht1]
  · iapply (Transfers.pointsTo_toks_join (ℓ := tLoc d) (S := Finset.univ) (f := E) fullShare 32)
    isplitl [Ht0] <;> iassumption
  isplitl [Ha0 Ha1]
  · iapply (Transfers.pointsTo_toks_join (ℓ := aLoc d) (S := Finset.univ) (f := A) fullShare 32)
    isplitl [Ha0] <;> iassumption
  iexact Ho

end Cert.Proof.Run
-- ==== Proof.Main.lean ====
/-
  The kernel's run: `main` from its two arguments to its two results, every array's contents followed, and what holds at the
  end of every execution.
-/
module

public import proofs.«01_k».proof.Proof.Region
public import proofs.«01_k».proof.Proof.Split
public import Idealize.ShloMosaic.Lib.Pipeline.Frame

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type} [FloatOps F]

local notation "𝕄" => MM F

/-! ## What the arrays hold, step by step -/

variable (m : (ℓ : Loc nD τ sig) → Buf (Elt F) ℓ) (ρ : Dev nD → PrngReg)

/-- The first argument, its last two axes exchanged. -/
def XT (d : Dev nD) : S8x576x64.Idx → F .f32 := transpose S8x576x64 [0, 2, 1] (m (xLoc d)) transposes_S8x64x576_S8x576x64_0_2_1
/-- The indices the TensorCore kernel finds. -/
def IDX (d : Dev nD) : S8x1x576.Idx → BitVec 32 := idxOf (XT m d) (m (eLoc d))
/-- The same without the middle axis. -/
def AA (d : Dev nD) : S8x576.Idx → BitVec 32 := shapeCast S8x576 (IDX m d) shapeCasts_S8x1x576_S8x576
/-- The code table, flat. -/
def EE (d : Dev nD) : S32768.Idx → F .f32 := shapeCast S32768 (m (eLoc d)) shapeCasts_S64x512_S32768
/-- The gathered rows in the result's shape. -/
def OO (d : Dev nD) : S8x64x576.Idx → F .f32 := shapeCast S8x64x576 (gathered (EE m d) (AA m d)) shapeCasts_S512x576_S8x64x576

abbrev op0 : HloOp τ sig (Elt F) := StableHlo.unary main_arg0 main_v0 ((transpose S8x576x64 [0, 2, 1] · transposes_S8x64x576_S8x576x64_0_2_1) : (⟨S8x64x576, .f32⟩ : BufTy).Contents (Elt F) → (⟨S8x576x64, .f32⟩ : BufTy).Contents (Elt F))
abbrev op2 : HloOp τ sig (Elt F) := StableHlo.reshape main_v1 main_v2 (rfl : (.i32 : EltTy) = .i32) shapeCasts_S8x1x576_S8x576
abbrev op3 : HloOp τ sig (Elt F) := StableHlo.reshape main_arg1 main_v3 (rfl : (.f32 : EltTy) = .f32) shapeCasts_S64x512_S32768
abbrev op5 : HloOp τ sig (Elt F) := StableHlo.reshape main_v4 main_v5 (rfl : (.f32 : EltTy) = .f32) shapeCasts_S512x576_S8x64x576

/-- A TensorCore's array as a device's. -/
abbrev dr (b : Ref sig .tc) : DevRef τ sig := Proc.devRef .tc b

/-- The arrays at the start, after the transpose, after the TensorCore kernel, after the two reshapes, after the SparseCore
    kernel and at the end. -/
def W0 (d : Dev nD) : Valuation τ sig (Elt F) := fun b => m (d, b)
def W1 (d : Dev nD) : Valuation τ sig (Elt F) := (op0 (F := F)).result (W0 m d)
def W2 (d : Dev nD) : Valuation τ sig (Elt F) := Function.update (W1 m d) (dr main_v1) (IDX m d)
def W3 (d : Dev nD) : Valuation τ sig (Elt F) := (op2 (F := F)).result (W2 m d)
def W4 (d : Dev nD) : Valuation τ sig (Elt F) := (op3 (F := F)).result (W3 m d)
def W5 (d : Dev nD) : Valuation τ sig (Elt F) := Function.update (W4 m d) (dr main_v4) (gathered (EE m d) (AA m d))
def W6 (d : Dev nD) : Valuation τ sig (Elt F) := (op5 (F := F)).result (W5 m d)

theorem W1_ne (d : Dev nD) {b : Ref sig .tc} (h : b ≠ main_v0) : W1 m d (dr b) = W0 m d (dr b) := StableHlo.unary_result_ne _ _ _ _ _ _ h
theorem W1_v0 (d : Dev nD) : W1 m d (dr main_v0) = XT m d := StableHlo.unary_result _ _ _ _ _ _
theorem W2_ne (d : Dev nD) {b : Ref sig .tc} (h : b ≠ main_v1) : W2 m d (dr b) = W1 m d (dr b) :=
  Function.update_of_ne (fun e => h (Proc.devRef_injective _ e)) _ _
theorem W2_v1 (d : Dev nD) : W2 m d (dr main_v1) = IDX m d := Function.update_self _ _ _
theorem W3_ne (d : Dev nD) {b : Ref sig .tc} (h : b ≠ main_v2) : W3 m d (dr b) = W2 m d (dr b) := StableHlo.reshape_result_ne _ _ _ _ _ _ _ h
theorem W3_v2 (d : Dev nD) : W3 m d (dr main_v2) = AA m d := by
  unfold W3; rw [StableHlo.reshape_result, W2_v1]; rfl
theorem W4_ne (d : Dev nD) {b : Ref sig .tc} (h : b ≠ main_v3) : W4 m d (dr b) = W3 m d (dr b) := StableHlo.reshape_result_ne _ _ _ _ _ _ _ h
theorem W4_v3 (d : Dev nD) : W4 m d (dr main_v3) = EE m d := by
  unfold W4; rw [StableHlo.reshape_result, W3_ne m d (by decide), W2_ne m d (by decide), W1_ne m d (by decide)]; rfl
theorem W5_ne (d : Dev nD) {b : Ref sig .tc} (h : b ≠ main_v4) : W5 m d (dr b) = W4 m d (dr b) :=
  Function.update_of_ne (fun e => h (Proc.devRef_injective _ e)) _ _
theorem W5_v4 (d : Dev nD) : W5 m d (dr main_v4) = gathered (EE m d) (AA m d) := Function.update_self _ _ _
theorem W6_ne (d : Dev nD) {b : Ref sig .tc} (h : b ≠ main_v5) : W6 m d (dr b) = W5 m d (dr b) := StableHlo.reshape_result_ne _ _ _ _ _ _ _ h
theorem W6_v5 (d : Dev nD) : W6 m d (dr main_v5) = OO m d := by
  unfold W6; rw [StableHlo.reshape_result, W5_v4]; rfl

/-- At the end: the arguments as they were, the two results. -/
theorem W6_arg0 (d : Dev nD) : W6 m d (dr main_arg0) = m (xLoc d) := by
  rw [W6_ne m d (by decide), W5_ne m d (by decide), W4_ne m d (by decide), W3_ne m d (by decide), W2_ne m d (by decide), W1_ne m d (by decide)]; rfl
theorem W6_arg1 (d : Dev nD) : W6 m d (dr main_arg1) = m (eLoc d) := by
  rw [W6_ne m d (by decide), W5_ne m d (by decide), W4_ne m d (by decide), W3_ne m d (by decide), W2_ne m d (by decide), W1_ne m d (by decide)]; rfl
theorem W6_v2 (d : Dev nD) : W6 m d (dr main_v2) = AA m d := by
  rw [W6_ne m d (by decide), W5_ne m d (by decide), W4_ne m d (by decide), W3_v2]

/-- What the TensorCore kernel leaves is `W2`. -/
theorem Vout_W1 (d : Dev nD) : Vout (fun c b => W1 m c (dr b)) d = fun b => W2 m d (dr b) := by
  funext b
  by_cases h : b = main_v1
  · subst h
    rw [W2_v1]
    unfold Vout IDX
    rw [Function.update_self]
    have e : W1 m d (dr main_arg1) = m (eLoc d) := W1_ne m d (by decide)
    exact congr (congrArg idxOf (W1_v0 m d)) e
  · rw [W2_ne m d h]
    exact Function.update_of_ne h _ _

/-! ## The arrays one by one -/

/-- A core's arrays, one after the other. -/
theorem unscopedBufs_chain (d : Dev nD) (W : (b : Ref sig .tc) → Buf (Elt F) ((d.tc : Thread nD τ).loc b)) :
    (unscopedBufs d W : sProp 𝕄)
      = iprop((xLoc d ↦{fullShare} W main_arg0) ∗ (eLoc d ↦{fullShare} W main_arg1) ∗ (xtLoc d ↦{fullShare} W main_v0) ∗ (iLoc d ↦{fullShare} W main_v1)
          ∗ (aLoc d ↦{fullShare} W main_v2) ∗ (tLoc d ↦{fullShare} W main_v3) ∗ (oLoc d ↦{fullShare} W main_v4) ∗ rLoc d ↦{fullShare} W main_v5) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- All a core's arrays at a valuation. -/
abbrev allAt (d : Dev nD) (W : Valuation τ sig (Elt F)) : sProp 𝕄 := unscopedBufs d fun b => W (dr b)

/-- The arrays a core has but the SparseCore call's three. -/
def rest (d : Dev nD) (W : Valuation τ sig (Elt F)) : sProp 𝕄 :=
  iprop((xLoc d ↦{fullShare} W (dr main_arg0)) ∗ (eLoc d ↦{fullShare} W (dr main_arg1)) ∗ (xtLoc d ↦{fullShare} W (dr main_v0)) ∗ (iLoc d ↦{fullShare} W (dr main_v1))
    ∗ rLoc d ↦{fullShare} W (dr main_v5))

/-- The call's three arrays and the others, before the call. -/
theorem allAt_W4 (d : Dev nD) :
    allAt d (W4 m d) ⊢ (iprop(rest d (W4 m d) ∗ (tLoc d ↦{fullShare} EE m d) ∗ (aLoc d ↦{fullShare} AA m d) ∗ oLoc d ↦{fullShare} W4 m d (dr main_v4)) : sProp 𝕄) := by
  unfold allAt rest
  rw [unscopedBufs_chain, W4_v3, W4_ne m d (b := main_v2) (by decide), W3_v2]
  iintro ⟨H1, H2, H3, H4, H5, H6, H7, H8⟩
  isplitl [H1 H2 H3 H4 H8]
  · isplitl [H1]; · iexact H1
    isplitl [H2]; · iexact H2
    isplitl [H3]; · iexact H3
    isplitl [H4]; · iexact H4
    iexact H8
  isplitl [H6]; · iexact H6
  isplitl [H5]; · iexact H5
  iexact H7

/-- And after it. -/
theorem allAt_W5 (d : Dev nD) :
    iprop(rest d (W4 m d) ∗ (tLoc d ↦{fullShare} EE m d) ∗ (aLoc d ↦{fullShare} AA m d) ∗ oLoc d ↦{fullShare} gathered (EE m d) (AA m d)) ⊢ (allAt d (W5 m d) : sProp 𝕄) := by
  unfold allAt rest
  rw [unscopedBufs_chain, W5_v4, W5_ne m d (b := main_arg0) (by decide), W5_ne m d (b := main_arg1) (by decide), W5_ne m d (b := main_v0) (by decide),
    W5_ne m d (b := main_v1) (by decide), W5_ne m d (b := main_v2) (by decide), W5_ne m d (b := main_v3) (by decide), W5_ne m d (b := main_v5) (by decide),
    W4_v3, W4_ne m d (b := main_v2) (by decide), W3_v2]
  iintro ⟨⟨H1, H2, H3, H4, H8⟩, H6, H5, H7⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- One host operation over all a core's arrays. -/
theorem host_step (d : Dev nD) (op : HloOp τ sig (Elt F)) (hS : op.bufs ⊆ StableHlo.tcRefs τ sig) (hf : op.fresh = ∅) (W W' : Valuation τ sig (Elt F))
    (h : op.result W = W') (Q : PUnit → sProp 𝕄) :
    iprop(boundary (d.tc : Thread nD τ) ∗ allAt d W ∗ ((boundary (d.tc : Thread nD τ) ∗ allAt d W') -∗ Q ⟨⟩))
      ⊢ wp frame (wpE ((K (F := F)).defs (D (F := F))) 𝒱 (SparseCore.T d) none) Set.univ
          (hlo rfl op (fun _ => .ret ⟨⟩)) Q := by
  subst h
  unfold allAt
  rw [Pipeline.unscopedBufs_held d W, Pipeline.unscopedBufs_held d (op.result W)]
  iintro ⟨Hb, HA, HQ⟩
  iapply (StableHlo.wp_hlo_within (defs := (K (F := F)).defs (D (F := F))) 𝒱 (d.tc : Thread nD τ) none Set.univ (Pipeline.sub_ucRefs op hS) (hf := hf)) $$ [Hb HA]
  · isplitl [Hb] <;> iassumption
  iintro H
  rw [wp_ret]
  imodintro
  iapply HQ; iexact H

/-! ## The launch's ghost state -/

/-- The handshakes' rounds and the pipeline's. -/
def u₀ : UU := (initOf (K (F := F)).hsCells (K (F := F)).hsToks,
  (initOf (Pipeline.cells (Pipeline.pin (pcfgs (F := F)) adm₀) cellOf_inj) (Pipeline.launchToks (Pipeline.pin (pcfgs (F := F)) adm₀) cellOf_inj), 1))

/-- What a core has of the pipeline's rounds. -/
def G (d : Dev nD) : sProp 𝕄 :=
  iprop(Pipeline.cellsGhost (Pipeline.pin (pcfgs (F := F)) adm₀) EP 0 d ∗ Pipeline.toksInit (Pipeline.pin (pcfgs (F := F)) adm₀) EP 0 d)

theorem bigSep_none {I : Type} (s : Finset I) : (bigSep s fun _ => iprop(emp)) = (iprop(emp) : sProp 𝕄) := bigSep_emp_const s

theorem launch_ghost : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P (EE m) (AA m)).x q thr) := by
  unfold u₀
  iintro Hu
  ihave H := (ownU_pair _ _) $$ Hu
  icases H with ⟨HH, HP⟩
  ihave HP' := (own_pair_emb embR _ _) $$ HP
  icases HP' with ⟨HP, -⟩
  ihave HP'' := (Pipeline.fund_ghost (Pipeline.pin (pcfgs (F := F)) adm₀) ((Emb.inl : Emb UP (UP × Counters)).trans embR) cellOf_inj) $$ HP
  imod HP'' with ⟨HC, HT⟩
  imodintro
  isplitl [HH]; · iexact HH
  isplitl [HC HT]
  · rw [show (G (F := F)) = fun d => iprop(Pipeline.cellsGhost (Pipeline.pin (pcfgs (F := F)) adm₀) EP 0 d ∗ Pipeline.toksInit (Pipeline.pin (pcfgs (F := F)) adm₀) EP 0 d) from rfl,
      bigSep_sep']
    isplitl [HC]
    · iapply (Entails.of_eq (bigSep_congr fun d _ => bigSep_univ_of_subsingleton (0 : Fin 1))) $$ HC
    · iapply (Entails.of_eq (bigSep_congr fun d _ => bigSep_univ_of_subsingleton (0 : Fin 1))) $$ HT
  rw [show (bigSep Finset.univ fun thr : Thread nD τ => bigSep Finset.univ fun q : Fin 1 => (P (EE m) (AA m)).x q thr) = bigSep Finset.univ fun _ => (iprop(emp) : sProp 𝕄) from
    bigSep_congr fun _ _ => bigSep_univ_of_subsingleton (0 : Fin 1), bigSep_none]
  iempintro

/-! ## `main` -/

/-- A core's dues out of its handshake state, and back. -/
theorem tcSt_open (d : Dev nD) :
    ((K (F := F)).tcSt EH d 0 : sProp 𝕄) ⊢ iprop(owesLow (F := F) d ∗ (owesLow (F := F) d -∗ (K (F := F)).tcSt EH d 0)) := by
  unfold SparseCore.Cfg.tcSt
  iintro ⟨Ho, Hst⟩
  isplitl [Ho]; · iexact Ho
  iintro Ho
  isplitl [Ho]; · iexact Ho
  iexact Hst

/-- `main` on a core: from the arrays at the start to the arrays at the end. -/
theorem main_wp [∀ e, Nonempty (Elt F e)] (κ : GSem nD τ sig → ℕ) (d : Dev nD) :
    iprop((K (F := F)).ctx EH (P (EE m) (AA m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ allAt d (W6 m d) ∗ (K (F := F)).tcEnd d) := by
  unfold SparseCore.Cfg.tcRes SparseCore.Cfg.tcEnd G
  simp only [main, wp_bind, wp_pure]
  iintro ⟨#Hctx, Hst, ⟨Hb, HA, Hts, -⟩, HG⟩
  iapply (host_step d (op0 (F := F)) (StableHlo.unary_bufs_sub _ _ _ _ _) rfl (W0 m d) (W1 m d) rfl _)
  isplitl [Hb]; · iexact Hb
  isplitl [HA]; · iexact HA
  iintro ⟨Hb, HA⟩
  ihave Hst' := (tcSt_open d) $$ Hst
  icases Hst' with ⟨Ho, Hst⟩
  ihave Hlev := ((K (F := F)).ctx_levAts κ) $$ Hctx
  iapply (region_wp (fun c b => W1 m c (dr b)) d _)
  isplitr [Hb HA Ho Hlev HG]
  · rw [Vout_W1]
    iintro ⟨Hb, HA, Ho⟩
    iapply (host_step d (op2 (F := F)) (StableHlo.reshape_bufs_sub _ _ _ _ _ _) rfl (W2 m d) (W3 m d) rfl _)
    isplitl [Hb]; · iexact Hb
    isplitl [HA]; · iexact HA
    iintro ⟨Hb, HA⟩
    iapply (host_step d (op3 (F := F)) (StableHlo.reshape_bufs_sub _ _ _ _ _ _) rfl (W3 m d) (W4 m d) rfl _)
    isplitl [Hb]; · iexact Hb
    isplitl [HA]; · iexact HA
    iintro ⟨Hb, HA⟩
    ihave HA' := (allAt_W4 m d) $$ HA
    icases HA' with ⟨Hr, H3⟩
    ihave Hd := (deal (EE m d) (AA m d) d _) $$ H3
    icases Hd with ⟨Hk, Hd⟩
    iapply ((K (F := F)).wp_run (D (F := F)) 𝒱 (EH := EH) (P := P (EE m) (AA m)) κ d 0)
    isplitr; · iexact Hctx
    isplitl [Ho Hst]
    · iapply Hst; iexact Ho
    isplitl [Hd]; · iexact Hd
    iintro ⟨Hst, Hdn⟩
    ihave H3 := (undeal (EE m d) (AA m d) d) $$ [Hk Hdn]
    · isplitl [Hk]; · iexact Hk
      iexact Hdn
    ihave HA := (allAt_W5 m d) $$ [Hr H3]
    · isplitl [Hr] <;> iassumption
    iapply (host_step d (op5 (F := F)) (StableHlo.reshape_bufs_sub _ _ _ _ _ _) rfl (W5 m d) (W6 m d) rfl _)
    isplitl [Hb]; · iexact Hb
    isplitl [HA]; · iexact HA
    iintro ⟨Hb, HA⟩
    imodintro
    isplitl [Hst]; · iexact Hst
    isplitl [HA]; · iexact HA
    isplitl [Hb] <;> iassumption
  isplitl [Hb]; · iexact Hb
  isplitl [HA Ho]
  · isplitl [HA]; · iexact HA
    iexact Ho
  isplitl [Hlev]; · iexact Hlev
  iexact HG

/-! ## The run -/

/-- What holds of a device's memory at the end: the arguments as they were, the two results. -/
def fin (d : Dev nD) (s : (ℓ : Loc nD τ sig) → Buf (Elt F) ℓ) : Prop :=
  s (rLoc d) = OO m d ∧ s (aLoc d) = AA m d ∧ s (xLoc d) = m (xLoc d) ∧ s (eLoc d) = m (eLoc d)

/-- One array held whole is what the memory has. -/
theorem mem_eq (ℓ : Loc nD τ sig) (f : Buf (Elt F) ℓ) (s' : Phys nD τ sig (Elt F)) :
    iprop(SI s' ∗ (ℓ ↦{fullShare} f)) ⊢ (iprop(⌜s'.mem.mem ℓ = f⌝ ∗ SI s' ∗ (ℓ ↦{fullShare} f)) : sProp 𝕄) := by
  iintro H
  ihave H' := (persistent_entails_right (SI_pointsTo_agree (st := s') (ℓ := ℓ) (I := Finset.univ) (q := fullShare) (f := f))) $$ H
  icases H' with ⟨%h, H⟩
  isplitr; · ipureintro; exact funext fun i => h i (Finset.mem_univ i)
  iexact H

theorem fin_of (d : Dev nD) (s' : Phys nD τ sig (Elt F)) : iprop(allAt d (W6 m d) ∗ SI s') ⊢ (⌜fin m d s'.mem.mem⌝ : sProp 𝕄) := by
  unfold allAt
  rw [unscopedBufs_chain, W6_v5, W6_v2, W6_arg0, W6_arg1]
  iintro ⟨⟨Hx, He, -, -, Ha, -, -, Hr⟩, HSI⟩
  ihave H := (mem_eq (xLoc d) _ s') $$ [HSI Hx]
  · isplitl [HSI] <;> iassumption
  icases H with ⟨%hx, HSI, -⟩
  ihave H := (mem_eq (eLoc d) _ s') $$ [HSI He]
  · isplitl [HSI] <;> iassumption
  icases H with ⟨%he, HSI, -⟩
  ihave H := (mem_eq (aLoc d) _ s') $$ [HSI Ha]
  · isplitl [HSI] <;> iassumption
  icases H with ⟨%ha, HSI, -⟩
  ihave H := (mem_eq (rLoc d) _ s') $$ [HSI Hr]
  · isplitl [HSI] <;> iassumption
  icases H with ⟨%hr, -, -⟩
  ipureintro
  exact ⟨hr, ha, hx, he⟩

/-- Every execution of the kernel ends with the two results in place, the arguments as they were and every semaphore at zero,
    where the indices the TensorCore kernel finds are lanes of the table. -/
theorem run_main [∀ e, Nonempty (Elt F e)] (hA : ∀ d i, (AA m d i).toNat < 512) :
    θ_run (Cert.KernelIdeal.defs (F := F)) (Cert.KernelIdeal.threads (F := F)) ⟨m, fun _ => 0, ρ⟩
      (fun r => (∀ c : Dev nD, fin m c r.2.mem) ∧ r.2.sem = fun _ => 0) :=
  SparseCore.Cfg.θ_run_sc_quiescent (K := K (F := F)) (D := D (F := F)) (𝒱 := 𝒱) (EH := EH) (P := P (EE m) (AA m)) (A := ∅) facts v₀
    (fun q hq => match q with | 0 => nomatch hq)
    (fun q _ => match q with | 0 => tileObl (EE m) (AA m) hA facts)
    (fun q _ => match q with | 0 => vecSplit (EE m) (AA m))
    m ρ main G (fun d => allAt d (W6 m d)) (u₀ (F := F)) (sep_elim_left.trans (launch_ghost m)) (main_wp m ρ) (fun d s' => fin m d s'.mem.mem) (fin_of m)
    (fun r => (∀ c : Dev nD, fin m c r.2.mem) ∧ r.2.sem = fun _ => 0) (fun _ h hz => ⟨h, hz⟩)

end Cert.Proof.Run
-- ==== Proof.First.lean ====
/-
  The first lane at which a row of distances is least, and the two ways of finding it: the kernel's, by the row's minimum
  and then the least lane that equals it, and the reference's, by a reduction of (distance, lane) pairs.
-/
module

public import Idealize.ShloMosaic.PureOps.Ideal.Laws
public import Mathlib.Data.Prod.Lex
public import Mathlib.Data.Finset.Fold

@[expose] public section

noncomputable section

namespace Cert.Proof.First

open Idealize.ShloMosaic

/-- Lane `k` is the first one at which `D` is least. -/
def IsFirst (D : Fin 512 → EReal) (k : Fin 512) : Prop :=
  (∀ j, D k ≤ D j) ∧ ∀ j, j < k → D k < D j

/-- Every row of distances has a first least lane. -/
theorem exists_first (D : Fin 512 → EReal) : ∃ k, IsFirst D k := by
  obtain ⟨k₀, -, h₀⟩ := Finset.exists_min_image (Finset.univ : Finset (Fin 512)) D ⟨0, Finset.mem_univ _⟩
  have hne : (Finset.univ.filter fun k => D k = D k₀).Nonempty := ⟨k₀, by simp⟩
  obtain ⟨k, hk, hmin⟩ := Finset.exists_min_image _ id hne
  have hk' : D k = D k₀ := by simpa using hk
  refine ⟨k, fun j => hk' ▸ h₀ j (Finset.mem_univ _), fun j hj => lt_of_le_of_ne (hk' ▸ h₀ j (Finset.mem_univ _)) fun e => ?_⟩
  have := hmin j (by simp [← e, hk'])
  exact absurd hj (not_lt.2 this)

/-- There is only one first least lane. -/
theorem first_unique {D : Fin 512 → EReal} {k l : Fin 512} (hk : IsFirst D k) (hl : IsFirst D l) : k = l := by
  rcases lt_trichotomy k l with h | h | h
  · exact absurd (hl.2 k h) (not_lt.2 (hk.1 l))
  · exact h
  · exact absurd (hk.2 l h) (not_lt.2 (hl.1 k))

/-- A lane's number as a signed word. -/
theorem toInt_lane (k : Fin 512) : (BitVec.ofNat 32 k.val).toInt = k.val := by
  have := k.isLt
  rw [BitVec.toInt_eq_toNat_of_lt (by rw [BitVec.toNat_ofNat]; omega), BitVec.toNat_ofNat]
  omega

/-- A lane's number as a natural number. -/
theorem toNat_lane (k : Fin 512) : (BitVec.ofNat 32 k.val).toNat = k.val := by
  have := k.isLt
  rw [BitVec.toNat_ofNat]; omega

/-- The signed minimum of two words, read as integers. -/
theorem toInt_minsi (x y : BitVec 32) : (IntOp.minsi x y).toInt = min x.toInt y.toInt := by
  unfold IntOp.minsi
  by_cases h : x.slt y
  · rw [if_pos h, min_eq_left]
    have := BitVec.slt_iff_toInt_lt.1 h
    omega
  · rw [if_neg h, min_eq_right]
    have : ¬ x.toInt < y.toInt := fun h' => h (BitVec.slt_iff_toInt_lt.2 h')
    omega

/-- The minimum of a row, folded from +∞, is the row's value at its first least lane. -/
theorem fold_min {D : Fin 512 → EReal} {k : Fin 512} (hk : IsFirst D k) :
    (Finset.univ : Finset (Fin 512)).fold min ⊤ D = D k := by
  refine le_antisymm (Finset.fold_min_le _ |>.2 (.inr ⟨k, Finset.mem_univ _, le_rfl⟩))
    (Finset.le_fold_min _ |>.2 ⟨le_top, fun j _ => hk.1 j⟩)

/-- The least of the lanes whose distance equals the row's minimum — 512 standing at the others — is the first least
    lane. -/
theorem fold_index {D : Fin 512 → EReal} {k : Fin 512} (hk : IsFirst D k) (g : Fin 512 → BitVec 32)
    (hg : ∀ j, g j = if D j = D k then BitVec.ofNat 32 j.val else 512#32) :
    (Finset.univ : Finset (Fin 512)).fold IntOp.minsi 2147483647#32 g = BitVec.ofNat 32 k.val := by
  apply BitVec.eq_of_toInt_eq
  rw [← Finset.fold_hom (op' := min) (m := BitVec.toInt) toInt_minsi]
  refine le_antisymm (Finset.fold_min_le _ |>.2 (.inr ⟨k, Finset.mem_univ _, ?_⟩))
    (Finset.le_fold_min _ |>.2 ⟨?_, fun j _ => ?_⟩)
  · rw [hg, if_pos rfl]
  · have := k.isLt
    have e : (2147483647#32).toInt = 2147483647 := by decide
    rw [toInt_lane, e]; omega
  · rw [hg, toInt_lane]
    split
    · next h =>
        rw [toInt_lane]
        have : k ≤ j := not_lt.1 fun hj => absurd (hk.2 j hj) (by rw [h]; exact lt_irrefl _)
        exact_mod_cast this
    · have := k.isLt
      have e : (512#32).toInt = 512 := by decide
      rw [e]; omega

/-! ## Pairs -/

/-- A (distance, lane) pair in the order in which the distance decides first and the signed lane after it. -/
def key (p : EReal × BitVec 32) : EReal ×ₗ ℤ := toLex (p.1, p.2.toInt)

theorem key_injective : Function.Injective key := by
  rintro ⟨a, x⟩ ⟨b, y⟩ h
  have h' := congrArg ofLex h
  simp only [key, ofLex_toLex, Prod.mk.injEq] at h'
  exact Prod.ext h'.1 (BitVec.eq_of_toInt_eq h'.2)

/-- An operation on pairs that takes the lesser key is commutative. -/
theorem key_comm {f : EReal × BitVec 32 → EReal × BitVec 32 → EReal × BitVec 32}
    (hf : ∀ a b, key (f a b) = min (key a) (key b)) : Std.Commutative f :=
  ⟨fun a b => key_injective (by rw [hf, hf, min_comm])⟩

/-- An operation on pairs that takes the lesser key is associative. -/
theorem key_assoc {f : EReal × BitVec 32 → EReal × BitVec 32 → EReal × BitVec 32}
    (hf : ∀ a b, key (f a b) = min (key a) (key b)) : Std.Associative f :=
  ⟨fun a b c => key_injective (by rw [hf, hf, hf, hf, min_assoc])⟩

/-- Folding (distance, lane) pairs from (+∞, 0) by the lesser key gives the first least lane and its distance. -/
theorem fold_pair {f : EReal × BitVec 32 → EReal × BitVec 32 → EReal × BitVec 32}
    (hf : ∀ a b, key (f a b) = min (key a) (key b)) [Std.Commutative f] [Std.Associative f]
    {D : Fin 512 → EReal} {k : Fin 512} (hk : IsFirst D k) :
    (Finset.univ : Finset (Fin 512)).fold f (⊤, 0#32) (fun j => (D j, BitVec.ofNat 32 j.val)) = (D k, BitVec.ofNat 32 k.val) := by
  apply key_injective
  rw [← Finset.fold_hom (op' := min) (m := key) hf]
  refine le_antisymm (Finset.fold_min_le _ |>.2 (.inr ⟨k, Finset.mem_univ _, le_rfl⟩))
    (Finset.le_fold_min _ |>.2 ⟨?_, fun j _ => ?_⟩)
  · refine Prod.Lex.toLex_le_toLex.2 ?_
    rcases lt_or_eq_of_le (le_top (a := D k)) with h | h
    · exact .inl h
    · refine .inr ⟨h, ?_⟩
      have : k = 0 := by
        by_contra hne
        have := hk.2 0 (Fin.pos_iff_ne_zero.2 hne)
        rw [h] at this
        exact absurd this not_top_lt
      subst this
      exact le_rfl
  · refine Prod.Lex.toLex_le_toLex.2 ?_
    rcases lt_or_eq_of_le (hk.1 j) with h | h
    · exact .inl h
    · refine .inr ⟨h, ?_⟩
      show (BitVec.ofNat 32 k.val).toInt ≤ (BitVec.ofNat 32 j.val).toInt
      rw [toInt_lane, toInt_lane]
      have : k ≤ j := not_lt.1 fun hj => absurd (hk.2 j hj) (by rw [h]; exact lt_irrefl _)
      exact_mod_cast this

end Cert.Proof.First
-- ==== Proof.Argmin.lean ====
/-
  The TensorCore region's body at the ideal values: the index it stores for a row is the first lane at which the row's
  distances are least, whatever the inputs; so every stored index is below 512.
-/
module

public import proofs.«01_k».proof.Proof.Main
public import proofs.«01_k».proof.Proof.First
public import Idealize.ShloMosaic.PureOps.Ideal.Laws

@[expose] public section

noncomputable section

namespace Cert.Proof.Run

open Cert.KernelIdeal Cert.KernelIdeal.Gen Cert.Proof.First
open Idealize.ShloMosaic hiding ix1 ix2 ix3 eq_ix2
open Idealize.ShloMosaic.ValueIdx

/-- The body's table of distances, one per row and lane: its operations down to the square root. -/
def distV (v0 : Vec Ideal S1x576x64 .f32) (v2 : Vec Ideal S64x512 .f32) : FVec Ideal S576x512 .f32 :=
  have v1 : FVec Ideal S576x64 .f32 := shapeCast S576x64 v0 shapeCasts_S1x576x64_S576x64
  have v3 : FVec Ideal S576x64 .f32 := mulf v1 v1
  have v4 : FVec Ideal S576 .f32 := multiReduction .add [1] S576 v3 0x00000000#32 reduces_S576x64_S576 (.inl rfl) rfl
  have v5 : FVec Ideal S576x1 .f32 := shapeCast S576x1 v4 shapeCasts_S576_S576x1
  have v6 : FVec Ideal S64x512 .f32 := mulf v2 v2
  have v7 : FVec Ideal S512 .f32 := multiReduction .add [0] S512 v6 0x00000000#32 reduces_S64x512_S512 (.inl rfl) rfl
  have v8 : FVec Ideal S1x512 .f32 := shapeCast S1x512 v7 shapeCasts_S512_S1x512
  have v9 : FVec Ideal S576x512 .f32 := matmul (φ₁ := .f32) (φ₂ := .f32) dot_S576x64_S64x512_S576x512_1_0_0_1_n_n (some .fp32) v1 v2 (constant S576x512 .f32 0x00000000#32)
  have v11 : FVec Ideal S576x512 .f32 := mulf (broadcast S576x512 (Scalar.ofBits .f32 0x40000000#32)) v9
  have v13 : FVec Ideal S576x512 .f32 := subf (broadcastTo S576x512 v5 broadcasts_S576x1_S576x512) v11
  have v15 : FVec Ideal S576x512 .f32 := addf v13 (broadcastTo S576x512 v8 broadcasts_S1x512_S576x512)
  sqrt (maximumf v15 (broadcast S576x512 (Scalar.ofBits .f32 0x00000000#32)))

/-- The body's row of indices, from its table of distances: its operations after the square root. -/
def indexV (v18 : FVec Ideal S576x512 .f32) : IVec S576 32 :=
  have v19 : FVec Ideal S576 .f32 := multiReduction .minimumf [1] S576 v18 0x7F800000#32 reduces_S576x512_S576 (.inl rfl) rfl
  have v20 : FVec Ideal S576x1 .f32 := shapeCast S576x1 v19 shapeCasts_S576_S576x1
  have v23 : IVec S576x512 1 := cmpf .oeq v18 (broadcastTo S576x512 v20 broadcasts_S576x1_S576x512)
  have v25 : IVec S576x512 32 := select v23 (iota .tc S576x512 32 [1] iota_S576x512_d1_w32) (broadcast S576x512 512#32)
  multiReductionI .minsi [1] S576 v25 2147483647#32 reduces_S576x512_S576 rfl

/-- What the body stores is its row of indices under two unit axes. -/
theorem pay1_eq (v0 : Vec Ideal S1x576x64 .f32) (v2 : Vec Ideal S64x512 .f32) :
    k0_pay1 (F := Ideal) v0 v2 = shapeCast S1x1x576 (indexV (distV v0 v2)) shapeCasts_S576_S1x1x576 := by
  dsimp only [k0_pay1, indexV, distV]

/-- A vector of 576 viewed as a column and spread over the lanes reads the row's element at every lane. -/
theorem column_apply {α : Type} (v : S576.Idx → α) (o : Fin 576) (l : Fin 512) :
    broadcastTo S576x512 (shapeCast S576x1 v shapeCasts_S576_S576x1) broadcasts_S576x1_S576x512 (ix2 o l) = v (ix1 o) := by
  rw [broadcastTo_apply _ _ _ (ix2 o 0) (by intro a; fin_cases a <;> rfl)]
  refine shapeCast_apply _ _ _ _ ?_
  rw [Shape.rowMajor_val_one, Shape.rowMajor_val_two]
  simp

/-- A vector of 512 viewed as a row and spread over the 576 rows reads the lane's element in every row. -/
theorem row_apply {α : Type} (v : S512.Idx → α) (o : Fin 576) (l : Fin 512) :
    broadcastTo S576x512 (shapeCast S1x512 v shapeCasts_S512_S1x512) broadcasts_S1x512_S576x512 (ix2 o l) = v (ix1 l) := by
  rw [broadcastTo_apply _ _ _ (ix2 0 l) (by intro a; fin_cases a <;> rfl)]
  refine shapeCast_apply _ _ _ _ ?_
  rw [Shape.rowMajor_val_one, Shape.rowMajor_val_two]
  simp

/-- The index the body finds in a row is the first lane at which the row's distances are least. -/
theorem indexV_apply (v18 : FVec Ideal S576x512 .f32) (o : Fin 576) {k : Fin 512}
    (hk : IsFirst (fun l => v18 (ix2 o l)) k) : indexV v18 (ix1 o) = BitVec.ofNat 32 k.val := by
  have hmin : multiReduction .minimumf [1] S576 v18 0x7F800000#32 reduces_S576x512_S576 (.inl rfl) rfl (ix1 o)
      = v18 (ix2 o k) := by
    refine (multiReduction_minimumf_eq_fold v18 _ reduces_S576x512_S576 _ _ _).trans ?_
    rw [Shape.Reduces.fold_filter_drop_single]
    have hl : (v18 ∘ reduces_S576x512_S576.lift (ix1 o)) = fun l : Fin 512 => v18 (ix2 o l) := by
      funext l
      exact congrArg v18 (by funext a; fin_cases a <;> rfl)
    rw [hl]
    have ht : FloatOps.ofBits (F := Ideal) .f32 0x7F800000#32 = (⊤ : EReal) := by
      show Ideal.ofBits .f32 0x7F800000#32 = _
      simp [Ideal.ofBits, Ideal.ieee]
    rw [ht]
    exact fold_min hk
  unfold indexV
  dsimp only
  refine (multiReductionI_eq_fold .minsi _ _ reduces_S576x512_S576 _ _).trans ?_
  rw [Shape.Reduces.fold_filter_drop_single]
  refine fold_index hk _ fun l => ?_
  have hl : reduces_S576x512_S576.lift (ix1 o) l = ix2 o l := by funext a; fin_cases a <;> rfl
  have hM : ∀ M : FVec Ideal S576 .f32, M (ix1 o) = v18 (ix2 o k) →
      select (cmpf .oeq v18 (broadcastTo S576x512 (shapeCast S576x1 M shapeCasts_S576_S576x1) broadcasts_S576x1_S576x512))
        (iota .tc S576x512 32 [1] iota_S576x512_d1_w32) (broadcast S576x512 512#32) (ix2 o l)
        = if v18 (ix2 o l) = v18 (ix2 o k) then BitVec.ofNat 32 l.val else 512#32 := fun M hM => by
    rw [select_apply, cmpf_apply, column_apply, hM, iota_single_apply, broadcast_apply]
    show Scalar.select (Ideal.cmp .oeq (v18 (ix2 o l)) (v18 (ix2 o k))) (BitVec.ofNat 32 l.val) 512#32 = _
    by_cases h : v18 (ix2 o l) = v18 (ix2 o k)
    · simp [Ideal.cmp, h, Scalar.select]
    · simp [Ideal.cmp, h, Scalar.select]
  exact (congrArg _ hl).trans (hM _ hmin)

/-- The squared norm of a row minus twice the row's product with the code plus the code's squared norm, held at zero from
    below, and its square root: the distance as the kernel computes it. -/
def kdist (x e : Fin 64 → EReal) : EReal :=
  Ideal.sqrt (max ((∑ d, x d * x d) - 2 * (∑ d, x d * e d) + ∑ d, e d * e d) 0)

/-- The body's distance at a row and a lane. -/
theorem distV_apply (v0 : Vec Ideal S1x576x64 .f32) (v2 : Vec Ideal S64x512 .f32) (o : Fin 576) (l : Fin 512) :
    distV v0 v2 (ix2 o l) = kdist (fun d => v0 (ix3 0 o d)) (fun d => v2 (ix2 d l)) := by
  have h1 : ∀ d : Fin 64, shapeCast S576x64 v0 shapeCasts_S1x576x64_S576x64 (ix2 o d) = v0 (ix3 0 o d) := fun d => by
    refine shapeCast_apply _ _ _ _ ?_
    rw [Shape.rowMajor_val_three, Shape.rowMajor_val_two]
    simp
  have h2 : Scalar.ofBits (F := Ideal) .f32 0x40000000#32 = (2 : EReal) := by
    show Ideal.ofBits .f32 0x40000000#32 = _
    simp [Ideal.ofBits, Ideal.ieee]
    rw [← EReal.coe_mul]
    norm_num
    rfl
  have h0 : Scalar.ofBits (F := Ideal) .f32 0x00000000#32 = (0 : EReal) := Ideal.ofBits_zero_f32
  have hm : matmul (φ₁ := .f32) (φ₂ := .f32) dot_S576x64_S64x512_S576x512_1_0_0_1_n_n (some .fp32) (shapeCast S576x64 v0 shapeCasts_S1x576x64_S576x64 : FVec Ideal S576x64 .f32) v2
      (constant S576x512 .f32 0x00000000#32) (ix2 o l) = ∑ d : Fin 64, v0 (ix3 0 o d) * v2 (ix2 d l) := by
    simp only [matmul]
    rw [Ideal.matmul_constant_zero_apply,
      ← Equiv.sum_comp (contrEquiv1 dot_S576x64_S64x512_S576x512_1_0_0_1_n_n 64 rfl rfl).symm]
    refine Finset.sum_congr rfl fun d _ => ?_
    have el : dot_S576x64_S64x512_S576x512_1_0_0_1_n_n.lhsIdx (ix2 o l)
        ((contrEquiv1 dot_S576x64_S64x512_S576x512_1_0_0_1_n_n 64 rfl rfl).symm d) = ix2 o d := by
      funext a; fin_cases a <;> rfl
    have er : dot_S576x64_S64x512_S576x512_1_0_0_1_n_n.rhsIdx (ix2 o l)
        ((contrEquiv1 dot_S576x64_S64x512_S576x512_1_0_0_1_n_n 64 rfl rfl).symm d) = ix2 d l := by
      funext a; fin_cases a <;> rfl
    rw [el, er, h1]
  have hD : ∀ (A : FVec Ideal S576 .f32) (B : FVec Ideal S512 .f32) (C : FVec Ideal S576x512 .f32),
      sqrt (maximumf (addf (subf (broadcastTo S576x512 (shapeCast S576x1 A shapeCasts_S576_S576x1) broadcasts_S576x1_S576x512)
          (mulf (broadcast S576x512 (Scalar.ofBits .f32 0x40000000#32)) C))
          (broadcastTo S576x512 (shapeCast S1x512 B shapeCasts_S512_S1x512) broadcasts_S1x512_S576x512))
          (broadcast S576x512 (Scalar.ofBits .f32 0x00000000#32))) (ix2 o l)
        = Ideal.sqrt (max ((A (ix1 o) : EReal) - 2 * C (ix2 o l) + B (ix1 l)) 0) := fun A B C => by
    rw [← column_apply A o l, ← row_apply B o l, ← h2, ← h0]
    rfl
  have e1 : ∀ d : Fin 64, mulf (F := Ideal) (φ := .f32) (shapeCast S576x64 v0 shapeCasts_S1x576x64_S576x64 : FVec Ideal S576x64 .f32) (shapeCast S576x64 v0 shapeCasts_S1x576x64_S576x64)
      (reduces_S576x64_S576.lift (ix1 o) d) = v0 (ix3 0 o d) * v0 (ix3 0 o d) := fun d => by
    have : reduces_S576x64_S576.lift (ix1 o) d = ix2 o d := by funext a; fin_cases a <;> rfl
    exact (congrArg (fun i => (shapeCast S576x64 v0 shapeCasts_S1x576x64_S576x64 i * shapeCast S576x64 v0 shapeCasts_S1x576x64_S576x64 i : EReal)) this).trans
      (by rw [h1])
  have e2 : ∀ d : Fin 64, mulf (F := Ideal) (φ := .f32) (v2 : FVec Ideal S64x512 .f32) v2 (reduces_S64x512_S512.lift (ix1 l) d) = v2 (ix2 d l) * v2 (ix2 d l) := fun d => by
    have : reduces_S64x512_S512.lift (ix1 l) d = ix2 d l := by funext a; fin_cases a <;> rfl
    exact congrArg (fun i => (v2 i * v2 i : EReal)) this
  refine (hD _ _ _).trans ?_
  unfold kdist
  refine congrArg (fun z : EReal => Ideal.sqrt (max z 0)) (congrArg₂ (· + ·) (congrArg₂ (· - ·) ?_ (congrArg (2 * ·) hm)) ?_)
  · exact (Ideal.multiReduction_add_single _ _ reduces_S576x64_S576 _ _ _).trans (Finset.sum_congr rfl fun d _ => e1 d)
  · exact (Ideal.multiReduction_add_single _ _ reduces_S64x512_S512 _ _ _).trans (Finset.sum_congr rfl fun d _ => e2 d)

/-- What the body stores for a row is the first lane at which the row's distances are least. -/
theorem pay1_apply (v0 : Vec Ideal S1x576x64 .f32) (v2 : Vec Ideal S64x512 .f32) (o : Fin 576) {k : Fin 512}
    (hk : IsFirst (fun l => kdist (fun d => v0 (ix3 0 o d)) (fun d => v2 (ix2 d l))) k) :
    k0_pay1 (F := Ideal) v0 v2 (ix3 0 0 o) = BitVec.ofNat 32 k.val := by
  rw [pay1_eq, shapeCast_apply _ _ (ix3 0 0 o : S1x1x576.Idx) (ix1 o : S576.Idx)
    (by rw [Shape.rowMajor_val_three, Shape.rowMajor_val_one]; simp)]
  refine indexV_apply _ _ ?_
  simpa only [distV_apply] using hk

variable (m : ∀ (ℓ : Loc nD τ sig), Buf (Elt Ideal) ℓ)

/-- The distance of batch `b`'s row `o` to code `l`, as the kernel computes it from its arguments. -/
def dist (d : Dev nD) (b : Fin 8) (o : Fin 576) (l : Fin 512) : EReal :=
  kdist (fun c => m (xLoc d) (ix3 b c o)) (fun c => m (eLoc d) (ix2 c l))

/-- The kernel's index of batch `b`'s row `o` is the first code at least distance. -/
theorem AA_apply (d : Dev nD) (b : Fin 8) (o : Fin 576) {k : Fin 512} (hk : IsFirst (dist m d b o) k) :
    AA (F := Ideal) m d (ix2 b o) = BitVec.ofNat 32 k.val := by
  unfold AA
  rw [shapeCast_apply _ _ (ix2 b o : S8x576.Idx) (ix3 b 0 o : S8x1x576.Idx)
    (by rw [Shape.rowMajor_val_three, Shape.rowMajor_val_two]; simp)]
  unfold IDX idxOf
  refine pay1_apply _ _ o ?_
  have e : ∀ c : Fin 64, XT m d (ix3 b o c) = m (xLoc d) (ix3 b c o) := fun c => by
    unfold XT
    exact transpose_apply _ _ _ _ _ (by intro a; fin_cases a <;> rfl)
  refine Eq.mp (congrArg (IsFirst · k) (funext fun l => ?_)) hk
  show kdist _ _ = kdist _ _
  congr 1
  funext c
  exact (e c).symm

/-- Every index the kernel finds is below 512. -/
theorem AA_lt (d : Dev nD) (i : S8x576.Idx) : (AA (F := Ideal) m d i).toNat < 512 := by
  obtain ⟨k, hk⟩ := exists_first (dist m d (i 0) (i 1))
  have e := AA_apply m d (i 0) (i 1) hk
  have e' : AA (F := Ideal) m d i = BitVec.ofNat 32 k.val := (congrArg (AA (F := Ideal) m d) (eq_ix2 i)).trans e
  rw [e', toNat_lane]
  exact k.isLt

end Cert.Proof.Run
-- ==== Proof.RefRun.lean ====
/-
  The run of the reference: a straight line of operations on whole arrays. What it leaves in its two results is stated by
  `refIdx` and `refOut`, the printed operations composed.
-/
module

public import proofs.«01_k».proof.Defs
public import proofs.«01_k».proof.Proof.Gen.ReferenceIdeal
public import Idealize.ShloMosaic.Lib.StableHlo.Run
public import Idealize.ShloMosaic.Lib.Quiescent
public import Idealize.ShloMosaic.Lib.Tactic

@[expose] public section

noncomputable section

namespace Cert.Proof.Ref

open Cert.ReferenceIdeal Cert.ReferenceIdeal.Gen
open Idealize.ShloMosaic Idealize.ShloMosaic.StableHlo Idealize.SL.Sem

variable {F : FTy → Type} [FloatOps F]

/-- The reference's table of distances: the norms, over the channels, of the differences of every row and every code. -/
def refDist (X : FVec F S8x64x576 .f32) (E : FVec F S64x512 .f32) : FVec F S8x576x512 .f32 :=
  let v2 := broadcastInDim S8x64x576x512 ![0, 1, 2, 3] bcast_S8x64x576x1_S8x64x576x512_0_1_2_3
    (broadcastInDim S8x64x576x1 ![0, 1, 2] bcast_S8x64x576_S8x64x576x1_0_1_2 X)
  let v3 := broadcastInDim S8x64x576x512 ![0, 1, 2, 3] bcast_S1x64x1x512_S8x64x576x512_0_1_2_3
    (broadcastInDim S1x64x1x512 ![1, 3] bcast_S64x512_S1x64x1x512_1_3 E)
  let v4 : FVec F S8x64x576x512 .f32 := subf v2 v3
  Host.sqrt (Host.reduceAdd (mulf v4 v4) (constant S_ .f32 0x00000000#32) reducesTo_S8x64x576x512_S8x576x512_d1 h_S_)

/-- The reference's indices: the argmin over the codes of a table of distances. -/
def refArg (D : FVec F S8x576x512 .f32) : IVec S8x576 32 := fun j =>
  (Host.argReduce reducer_argmin_f32_i32 D (iotaInDim S8x576x512 32 2) (constant S_ .f32 0x7F800000#32) (constantI S_ 32 0#32)
    reducesTo_S8x576x512_S8x576_d2 h_S_ j).2

/-- The indices `take` gathers at: a negative one counted from the end. -/
def refWrap (I : IVec S4608 32) : IVec S4608x1 32 :=
  broadcastInDim S4608x1 ![0] bcast_S4608_S4608x1_0
    (select (cmpi .slt I (broadcastInDim S4608 ![] bcast_S_S4608 (constantI S_ 32 0#32)))
      (addi I (broadcastInDim S4608 ![] bcast_S_S4608 (constantI S_ 32 512#32))) I)

/-- Where an index is one of the table's rows. -/
def refMask (J : IVec S4608x1 32) : IVec S4608 1 :=
  Host.reduce IntOp.andi
    (andi (cmpi .sge J (broadcastInDim S4608x1 ![] bcast_S_S4608x1 (constantI S_ 32 0#32)))
      (cmpi .sle J (broadcastInDim S4608x1 ![0, 1] bcast_S1x1_S4608x1_0_1 (broadcastInDim S1x1 ![1] bcast_S1_S1x1_1 (constantI S1 32 511#32)))))
    (constantI S_ 1 1#1) reducesTo_S4608x1_S4608_d1 h_S_

/-- `take`: the rows of a table at indices, NaN where the index is no row. -/
def refTake (T : FVec F S512x64 .f32) (I : IVec S4608 32) : FVec F S4608x64 .f32 :=
  select (broadcastInDim S4608x64 ![0] bcast_S4608_S4608x64_0 (refMask (refWrap I)))
    (Host.gather gather_S512x64_S4608x1_S4608x64_1_0_n_n_0_1_164 T (refWrap I))
    (broadcastInDim S4608x64 ![] bcast_S_S4608x64 (constant S_ .f32 0x7FC00000#32))

/-- The reference's quantized array: the codes taken at the indices, back in the argument's layout. -/
def refOut (E : FVec F S64x512 .f32) (I : IVec S8x576 32) : FVec F S8x64x576 .f32 :=
  transpose S8x64x576 [0, 2, 1]
    (shapeCast S8x576x64
      (refTake (transpose S512x64 [1, 0] E transposes_S64x512_S512x64_1_0) (shapeCast S4608 I shapeCasts_S8x576_S4608))
      shapeCasts_S4608x64_S8x576x64)
    transposes_S8x576x64_S8x64x576_0_2_1

/-- The reference's operations, in order. -/
abbrev ops : List (HloOp τ sig (Elt F)) :=
  [ unary main_arg0 main_v0 (broadcastInDim S8x64x576x1 ![0, 1, 2] bcast_S8x64x576_S8x64x576x1_0_1_2),
    unary main_arg1 main_v1 (broadcastInDim S1x64x1x512 ![1, 3] bcast_S64x512_S1x64x1x512_1_3),
    unary main_v0 main_v2 (broadcastInDim S8x64x576x512 ![0, 1, 2, 3] bcast_S8x64x576x1_S8x64x576x512_0_1_2_3),
    unary main_v1 main_v3 (broadcastInDim S8x64x576x512 ![0, 1, 2, 3] bcast_S1x64x1x512_S8x64x576x512_0_1_2_3),
    binary main_v2 main_v3 main_v4 subf,
    TRef.binary (.of main_v4) (.of main_v4) main_call0.v0 mulf,
    TRef.nullary main_call0.cst (constant S_ .f32 0x00000000#32),
    TRef.binary main_call0.v0 main_call0.cst main_call0.v1 (fun x v => Host.reduceAdd x v reducesTo_S8x64x576x512_S8x576x512_d1 h_S_),
    TRef.unary main_call0.v1 main_call0.v2 Host.sqrt,
    TRef.nullary main_call1.v0 (iotaInDim S8x576x512 32 2),
    TRef.nullary main_call1.cst (constant S_ .f32 0x7F800000#32),
    TRef.nullary main_call1.c (constantI S_ 32 0#32),
    TRef.quaternary (.of main_v5) main_call1.v0 main_call1.cst main_call1.c main_call1.v1_0 (fun x y u v j => (Host.argReduce reducer_argmin_f32_i32 x y u v reducesTo_S8x576x512_S8x576_d2 h_S_ j).1),
    TRef.quaternary (.of main_v5) main_call1.v0 main_call1.cst main_call1.c main_call1.v1_1 (fun x y u v j => (Host.argReduce reducer_argmin_f32_i32 x y u v reducesTo_S8x576x512_S8x576_d2 h_S_ j).2),
    unary main_arg1 main_v7 (transpose S512x64 [1, 0] · transposes_S64x512_S512x64_1_0),
    reshape main_v6 main_v8 rfl shapeCasts_S8x576_S4608,
    TRef.nullary main_call2.c (constantI S_ 32 0#32),
    TRef.unary main_call2.c main_call2.v0 (broadcastInDim S4608 ![] bcast_S_S4608),
    TRef.binary (.of main_v8) main_call2.v0 main_call2.v1 (cmpi .slt),
    TRef.nullary main_call2.c_0 (constantI S_ 32 512#32),
    TRef.unary main_call2.c_0 main_call2.v2 (broadcastInDim S4608 ![] bcast_S_S4608),
    TRef.binary (.of main_v8) main_call2.v2 main_call2.v3 addi,
    TRef.ternary main_call2.v1 main_call2.v3 (.of main_v8) main_call2.call0.v0 select,
    TRef.unary main_call2.call0.v0 main_call2.v5 (broadcastInDim S4608x1 ![0] bcast_S4608_S4608x1_0),
    TRef.nullary main_call2.c_1 (constantI S1 32 511#32),
    TRef.nullary main_call2.c_2 (constantI S_ 32 0#32),
    TRef.unary main_call2.c_2 main_call2.v6 (broadcastInDim S4608x1 ![] bcast_S_S4608x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S4608x1 ![0, 1] bcast_S1x1_S4608x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4608x1_S4608_d1 h_S_),
    TRef.binary (.of main_v7) main_call2.v5 main_call2.v13 (fun x i => Host.gather gather_S512x64_S4608x1_S4608x64_1_0_n_n_0_1_164 x i),
    TRef.unary main_call2.v12 main_call2.v14 (broadcastInDim S4608x64 ![0] bcast_S4608_S4608x64_0),
    TRef.nullary main_call2.cst (constant S_ .f32 0x7FC00000#32),
    TRef.unary main_call2.cst main_call2.v15 (broadcastInDim S4608x64 ![] bcast_S_S4608x64),
    TRef.ternary main_call2.v14 main_call2.v13 main_call2.v15 main_call2.v16 select,
    reshape main_v9 main_v10 rfl shapeCasts_S4608x64_S8x576x64,
    unary main_v10 main_v11 (transpose S8x64x576 [0, 2, 1] · transposes_S8x576x64_S8x64x576_0_2_1) ]

set_option maxRecDepth 1024 in
/-- The reference is that line: its functions unfolded at their calls. -/
theorem main_eq (c : Dev nD) : main (F := F) c = seq ops := by
  simp only [main, fn_norm.body, fn_argmin.body, fn_where.body, fn_take.body, seq, bind_assoc, pure_bind]
  rfl

/-- The operations down to the indices. -/
abbrev opsArg : List (HloOp τ sig (Elt F)) :=
  [ unary main_arg0 main_v0 (broadcastInDim S8x64x576x1 ![0, 1, 2] bcast_S8x64x576_S8x64x576x1_0_1_2),
    unary main_arg1 main_v1 (broadcastInDim S1x64x1x512 ![1, 3] bcast_S64x512_S1x64x1x512_1_3),
    unary main_v0 main_v2 (broadcastInDim S8x64x576x512 ![0, 1, 2, 3] bcast_S8x64x576x1_S8x64x576x512_0_1_2_3),
    unary main_v1 main_v3 (broadcastInDim S8x64x576x512 ![0, 1, 2, 3] bcast_S1x64x1x512_S8x64x576x512_0_1_2_3),
    binary main_v2 main_v3 main_v4 subf,
    TRef.binary (.of main_v4) (.of main_v4) main_call0.v0 mulf,
    TRef.nullary main_call0.cst (constant S_ .f32 0x00000000#32),
    TRef.binary main_call0.v0 main_call0.cst main_call0.v1 (fun x v => Host.reduceAdd x v reducesTo_S8x64x576x512_S8x576x512_d1 h_S_),
    TRef.unary main_call0.v1 main_call0.v2 Host.sqrt,
    TRef.nullary main_call1.v0 (iotaInDim S8x576x512 32 2),
    TRef.nullary main_call1.cst (constant S_ .f32 0x7F800000#32),
    TRef.nullary main_call1.c (constantI S_ 32 0#32),
    TRef.quaternary (.of main_v5) main_call1.v0 main_call1.cst main_call1.c main_call1.v1_0 (fun x y u v j => (Host.argReduce reducer_argmin_f32_i32 x y u v reducesTo_S8x576x512_S8x576_d2 h_S_ j).1),
    TRef.quaternary (.of main_v5) main_call1.v0 main_call1.cst main_call1.c main_call1.v1_1 (fun x y u v j => (Host.argReduce reducer_argmin_f32_i32 x y u v reducesTo_S8x576x512_S8x576_d2 h_S_ j).2) ]

/-- The operations from the indices to the wrapped indices. -/
abbrev opsWrap : List (HloOp τ sig (Elt F)) :=
  [ unary main_arg1 main_v7 (transpose S512x64 [1, 0] · transposes_S64x512_S512x64_1_0),
    reshape main_v6 main_v8 rfl shapeCasts_S8x576_S4608,
    TRef.nullary main_call2.c (constantI S_ 32 0#32),
    TRef.unary main_call2.c main_call2.v0 (broadcastInDim S4608 ![] bcast_S_S4608),
    TRef.binary (.of main_v8) main_call2.v0 main_call2.v1 (cmpi .slt),
    TRef.nullary main_call2.c_0 (constantI S_ 32 512#32),
    TRef.unary main_call2.c_0 main_call2.v2 (broadcastInDim S4608 ![] bcast_S_S4608),
    TRef.binary (.of main_v8) main_call2.v2 main_call2.v3 addi,
    TRef.ternary main_call2.v1 main_call2.v3 (.of main_v8) main_call2.call0.v0 select,
    TRef.unary main_call2.call0.v0 main_call2.v5 (broadcastInDim S4608x1 ![0] bcast_S4608_S4608x1_0) ]

/-- The operations from the wrapped indices to the mask. -/
abbrev opsMask : List (HloOp τ sig (Elt F)) :=
  [ TRef.nullary main_call2.c_1 (constantI S1 32 511#32),
    TRef.nullary main_call2.c_2 (constantI S_ 32 0#32),
    TRef.unary main_call2.c_2 main_call2.v6 (broadcastInDim S4608x1 ![] bcast_S_S4608x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S4608x1 ![0, 1] bcast_S1x1_S4608x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4608x1_S4608_d1 h_S_) ]

/-- The operations from the mask to the taken rows. -/
abbrev opsTake : List (HloOp τ sig (Elt F)) :=
  [ TRef.binary (.of main_v7) main_call2.v5 main_call2.v13 (fun x i => Host.gather gather_S512x64_S4608x1_S4608x64_1_0_n_n_0_1_164 x i),
    TRef.unary main_call2.v12 main_call2.v14 (broadcastInDim S4608x64 ![0] bcast_S4608_S4608x64_0),
    TRef.nullary main_call2.cst (constant S_ .f32 0x7FC00000#32),
    TRef.unary main_call2.cst main_call2.v15 (broadcastInDim S4608x64 ![] bcast_S_S4608x64),
    TRef.ternary main_call2.v14 main_call2.v13 main_call2.v15 main_call2.v16 select ]

/-- The operations that put the taken rows in the argument's layout. -/
abbrev opsOut : List (HloOp τ sig (Elt F)) :=
  [ reshape main_v9 main_v10 rfl shapeCasts_S4608x64_S8x576x64,
    unary main_v10 main_v11 (transpose S8x64x576 [0, 2, 1] · transposes_S8x576x64_S8x64x576_0_2_1) ]

/-- The line is its five parts, one after the other. -/
theorem after_ops (V : Valuation τ sig (Elt F)) :
    after ops V = after opsOut (after opsTake (after opsMask (after opsWrap (after opsArg V)))) := by
  simp only [after_cons, after_nil]

/-- The first part leaves the indices. -/
theorem arg_idx (V : Valuation τ sig (Elt F)) :
    after opsArg V (Proc.devRef .tc main_v6) = refArg (refDist (V (Proc.devRef .tc main_arg0)) (V (Proc.devRef .tc main_arg1))) := by
  after_results_simp
  rfl

/-- The first part leaves the second argument as it was. -/
theorem arg_arg1 (V : Valuation τ sig (Elt F)) :
    after opsArg V (Proc.devRef .tc main_arg1) = V (Proc.devRef .tc main_arg1) := by
  after_results_simp

/-- The second part leaves the wrapped indices. -/
theorem wrap_idx (V : Valuation τ sig (Elt F)) :
    after opsWrap V (Proc.devRef .tc main_call2_v5) = refWrap (shapeCast S4608 (V (Proc.devRef .tc main_v6)) shapeCasts_S8x576_S4608) := by
  after_results_simp
  rfl

/-- The second part leaves the codes as rows. -/
theorem wrap_rows (V : Valuation τ sig (Elt F)) :
    after opsWrap V (Proc.devRef .tc main_v7) = transpose S512x64 [1, 0] (V (Proc.devRef .tc main_arg1)) transposes_S64x512_S512x64_1_0 := by
  after_results_simp
  try rfl

/-- The third part leaves the mask. -/
theorem mask_mask (V : Valuation τ sig (Elt F)) :
    after opsMask V (Proc.devRef .tc main_call2_v12) = refMask (V (Proc.devRef .tc main_call2_v5)) := by
  after_results_simp
  rfl

/-- The third part leaves the wrapped indices as they were. -/
theorem mask_idx (V : Valuation τ sig (Elt F)) :
    after opsMask V (Proc.devRef .tc main_call2_v5) = V (Proc.devRef .tc main_call2_v5) := by
  after_results_simp

/-- The third part leaves the codes as they were. -/
theorem mask_rows (V : Valuation τ sig (Elt F)) :
    after opsMask V (Proc.devRef .tc main_v7) = V (Proc.devRef .tc main_v7) := by
  after_results_simp

/-- The fourth part leaves the taken rows. -/
theorem take_rows (V : Valuation τ sig (Elt F)) :
    after opsTake V (Proc.devRef .tc main_v9)
      = select (broadcastInDim S4608x64 ![0] bcast_S4608_S4608x64_0 (V (Proc.devRef .tc main_call2_v12)))
          (Host.gather gather_S512x64_S4608x1_S4608x64_1_0_n_n_0_1_164 (V (Proc.devRef .tc main_v7)) (V (Proc.devRef .tc main_call2_v5)))
          (broadcastInDim S4608x64 ![] bcast_S_S4608x64 (constant S_ .f32 0x7FC00000#32)) := by
  after_results_simp
  rfl

/-- The fifth part leaves the taken rows in the argument's layout. -/
theorem out_rows (V : Valuation τ sig (Elt F)) :
    after opsOut V (Proc.devRef .tc main_v11)
      = transpose S8x64x576 [0, 2, 1] (shapeCast S8x576x64 (V (Proc.devRef .tc main_v9)) shapeCasts_S4608x64_S8x576x64)
          transposes_S8x576x64_S8x64x576_0_2_1 := by
  after_results_simp
  try rfl

/-- The line leaves the first result at the codes taken at the indices. -/
theorem out_eq (V : Valuation τ sig (Elt F)) :
    after ops V (Proc.devRef .tc main_v11)
      = refOut (V (Proc.devRef .tc main_arg1)) (refArg (refDist (V (Proc.devRef .tc main_arg0)) (V (Proc.devRef .tc main_arg1)))) := by
  rw [after_ops, out_rows, take_rows, mask_mask, mask_idx, mask_rows, wrap_idx, wrap_rows, arg_idx, arg_arg1]
  rfl

/-- The line leaves the second result at the indices. -/
theorem idx_eq (V : Valuation τ sig (Elt F)) :
    after ops V (Proc.devRef .tc main_v6) = refArg (refDist (V (Proc.devRef .tc main_arg0)) (V (Proc.devRef .tc main_arg1))) := by
  after_results_simp
  rfl

/-- The line leaves the first argument as it was. -/
theorem arg0_eq (V : Valuation τ sig (Elt F)) :
    after ops V (Proc.devRef .tc main_arg0) = V (Proc.devRef .tc main_arg0) := by
  simp only [after_cons, after_nil]
  rfl

/-- The line leaves the second argument as it was. -/
theorem arg1_eq (V : Valuation τ sig (Elt F)) :
    after ops V (Proc.devRef .tc main_arg1) = V (Proc.devRef .tc main_arg1) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- The line touches TensorCore buffers only. -/
theorem ops_sub : (ops : List (HloOp τ sig (Elt F))).Forall fun op => op.bufs ⊆ tcRefs τ sig :=
  ⟨unary_bufs_sub .., unary_bufs_sub .., unary_bufs_sub .., unary_bufs_sub .., binary_bufs_sub ..,
    binary_bufs_sub .., nullary_bufs_sub .., binary_bufs_sub .., unary_bufs_sub ..,
    nullary_bufs_sub .., nullary_bufs_sub .., nullary_bufs_sub .., quaternary_bufs_sub .., quaternary_bufs_sub ..,
    unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub .., unary_bufs_sub ..⟩

/-- From any memory with zero counters the reference's every weakly fair run ends, its buffers at the line's fold. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The reference's run: its two results, its arguments unchanged, its counters zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v11)
            = refOut (m ((c.tc : Thread nD τ).loc main_arg1)) (refArg (refDist (m ((c.tc : Thread nD τ).loc main_arg0)) (m ((c.tc : Thread nD τ).loc main_arg1))))
          ∧ r.2.mem ((c.tc : Thread nD τ).loc main_v6)
            = refArg (refDist (m ((c.tc : Thread nD τ).loc main_arg0)) (m ((c.tc : Thread nD τ).loc main_arg1)))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono
    (fun r h => ⟨fun c => ⟨(h c main_v11).trans (out_eq _), (h c main_v6).trans (idx_eq _), (h c main_arg0).trans (arg0_eq _),
      (h c main_arg1).trans (arg1_eq _)⟩, sem_eq_zero_of_no_sems (by decide) r.2⟩)
    (run_line m ρ)

end Cert.Proof.Ref
-- ==== Proof.RefValue.lean ====
/-
  What the reference's two results are at the ideal values: the index of a row is the first code at least distance, and
  the quantized array holds, at every row, the code at that row's index.
-/
module

public import proofs.«01_k».proof.Proof.RefRun
public import proofs.«01_k».proof.Proof.First
public import Idealize.ShloMosaic.PureOps.Ideal.Laws
public import Idealize.ShloMosaic.Lib.ValueIdx
public import Idealize.ShloMosaic.Lib.Pipeline.Value
public import Idealize.ShloMosaic.Lib.ReduceAll

@[expose] public section

noncomputable section

namespace Cert.Proof.Ref

open Cert.ReferenceIdeal Cert.ReferenceIdeal.Gen Cert.Proof.First
open Idealize.ShloMosaic
open Idealize.ShloMosaic.ValueIdx

/-! ## Distances -/

/-- The root of the sum of the squared differences: the distance as the reference computes it. -/
def rdist (x e : Fin 64 → EReal) : EReal := Ideal.sqrt (0 + ∑ c, (x c - e c) * (x c - e c))

/-- The reference's distance of batch `b`'s row `o` to code `l`. -/
theorem refDist_apply (X : FVec Ideal S8x64x576 .f32) (E : FVec Ideal S64x512 .f32) (b : Fin 8) (o : Fin 576) (l : Fin 512) :
    refDist X E (ix3 b o l) = rdist (fun c => X (ix3 b c o)) (fun c => E (ix2 c l)) := by
  have hx : ∀ c : Fin 64, broadcastInDim S8x64x576x512 ![0, 1, 2, 3] bcast_S8x64x576x1_S8x64x576x512_0_1_2_3
      (broadcastInDim S8x64x576x1 ![0, 1, 2] bcast_S8x64x576_S8x64x576x1_0_1_2 X) (ix4 b c o l) = X (ix3 b c o) := fun c => by
    rw [broadcastInDim_apply _ _ _ _ (ix4 b c o 0) (by intro a; fin_cases a <;> rfl)]
    exact broadcastInDim_apply _ _ _ _ _ (by intro a; fin_cases a <;> rfl)
  have he : ∀ c : Fin 64, broadcastInDim S8x64x576x512 ![0, 1, 2, 3] bcast_S1x64x1x512_S8x64x576x512_0_1_2_3
      (broadcastInDim S1x64x1x512 ![1, 3] bcast_S64x512_S1x64x1x512_1_3 E) (ix4 b c o l) = E (ix2 c l) := fun c => by
    rw [broadcastInDim_apply _ _ _ _ (ix4 0 c 0 l) (by intro a; fin_cases a <;> rfl)]
    exact broadcastInDim_apply _ _ _ _ _ (by intro a; fin_cases a <;> rfl)
  have hr : S8x64x576x512.Reduces [1] S8x576x512 := by decide
  unfold refDist rdist
  dsimp only
  refine congrArg Ideal.sqrt ((Ideal.hostReduceAdd_single _ hr _ _ _).trans
    (congrArg₂ (· + ·) Ideal.ofBits_zero_f32 (Finset.sum_congr rfl fun c _ => ?_)))
  have hl : hr.lift (ix3 b o l) c = ix4 b c o l := by funext a; fin_cases a <;> rfl
  refine (congrArg _ hl).trans ?_
  rw [← hx c, ← he c]
  rfl

/-! ## Indices -/

/-- The reducer takes the pair of the lesser key. -/
theorem key_reducer (a b : EReal × BitVec 32) : key (reducer_argmin_f32_i32 (F := Ideal) a b) = min (key a) (key b) := by
  obtain ⟨x, u⟩ := a
  obtain ⟨y, v⟩ := b
  have hslt : IntOp.cmpi .slt u v = BitVec.ofBool (decide (u.toInt < v.toInt)) := rfl
  have e : reducer_argmin_f32_i32 (F := Ideal) (x, u) (y, v) = (if x < y then x else y, if x < y ∨ (x = y ∧ u.toInt < v.toInt) then u else v) := by
    unfold reducer_argmin_f32_i32
    dsimp only
    rw [hslt]
    simp only [Ideal.cmpf_def, Ideal.cmp, Scalar.select, IntOp.ori, IntOp.andi]
    by_cases h1 : x < y <;> by_cases h2 : x = y <;> by_cases h3 : u.toInt < v.toInt <;> simp [h1, h2, h3]
  rw [e]
  rcases lt_trichotomy x y with h | h | h
  · have : key (x, u) ≤ key (y, v) := Prod.Lex.toLex_le_toLex.2 (.inl h)
    rw [min_eq_left this]; simp [h]
  · subst h
    rcases lt_or_ge u.toInt v.toInt with h3 | h3
    · have : key (x, u) ≤ key (x, v) := Prod.Lex.toLex_le_toLex.2 (.inr ⟨rfl, h3.le⟩)
      rw [min_eq_left this]; simp [h3]
    · have : key (x, v) ≤ key (x, u) := Prod.Lex.toLex_le_toLex.2 (.inr ⟨rfl, h3⟩)
      rw [min_eq_right this]; simp [not_lt.2 h3]
  · have : key (y, v) ≤ key (x, u) := Prod.Lex.toLex_le_toLex.2 (.inl h)
    rw [min_eq_right this]; simp [not_lt.2 h.le, h.ne']

/-- The reference's index of a row is the first code at least distance. -/
theorem refArg_apply (D : FVec Ideal S8x576x512 .f32) (b : Fin 8) (o : Fin 576) {k : Fin 512}
    (hk : IsFirst (fun l => D (ix3 b o l)) k) : refArg D (ix2 b o) = BitVec.ofNat 32 k.val := by
  have : Std.Commutative (reducer_argmin_f32_i32 (F := Ideal)) := key_comm key_reducer
  have : Std.Associative (reducer_argmin_f32_i32 (F := Ideal)) := key_assoc key_reducer
  have hr : S8x576x512.Reduces [2] S8x576 := by decide
  have ht : FloatOps.ofBits (F := Ideal) .f32 0x7F800000#32 = (⊤ : EReal) := by
    show Ideal.ofBits .f32 0x7F800000#32 = _
    simp [Ideal.ofBits, Ideal.ieee]
  unfold refArg
  rw [Ideal.argReduce_eq_reduce2]
  have e := Host.reduce_eq_fold_single (reducer_argmin_f32_i32 (F := Ideal))
    (fun i => (D i, iotaInDim S8x576x512 32 2 i)) (fun u => (constant S_ .f32 0x7F800000#32 u, constantI S_ 32 0#32 u))
    reducesTo_S8x576x512_S8x576_d2 hr h_S_ (ix2 b o)
  refine (congrArg Prod.snd (e.trans ?_)).trans (congrArg Prod.snd (fold_pair key_reducer hk))
  have hl : ((fun i => (D i, iotaInDim S8x576x512 32 2 i)) ∘ hr.lift (ix2 b o))
      = fun l : Fin 512 => (D (ix3 b o l), BitVec.ofNat 32 l.val) := by
    funext l
    have hl : hr.lift (ix2 b o) l = ix3 b o l := by funext a; fin_cases a <;> rfl
    exact congrArg (fun i => (D i, iotaInDim S8x576x512 32 2 i)) hl
  rw [hl]
  exact congrArg (fun z => Finset.fold (reducer_argmin_f32_i32 (F := Ideal)) z _ _) (congrArg (·, 0#32) ht)

/-! ## The taken rows -/

/-- A gather of whole rows read at an entry: the operand at the row its index names, read signed and held inside the
    operand, and at the entry's column. -/
theorem gather_apply {α : Type} (T : S512x64.Idx → α) (J : IVec S4608x1 32) (p : Fin 4608) (c : Fin 64) :
    Host.gather gather_S512x64_S4608x1_S4608x64_1_0_n_n_0_1_164 T J (ix2 p c)
      = T (ix2 ⟨min (J (ix2 p 0)).toInt.toNat 511, by omega⟩ c) := by
  unfold Host.gather
  refine congrArg T (funext fun a => Fin.ext ?_)
  show gather_S512x64_S4608x1_S4608x64_1_0_n_n_0_1_164.start (ix2 p c) J a
    + gather_S512x64_S4608x1_S4608x64_1_0_n_n_0_1_164.batchCoord (ix2 p c) a
    + gather_S512x64_S4608x1_S4608x64_1_0_n_n_0_1_164.offCoord (ix2 p c) a = _
  have hb : gather_S512x64_S4608x1_S4608x64_1_0_n_n_0_1_164.batchCoord (ix2 p c) a = 0 :=
    GatherDims.batchCoord_eq_zero _ _ _ List.not_mem_nil
  rw [hb]
  fin_cases a
  · have ho : gather_S512x64_S4608x1_S4608x64_1_0_n_n_0_1_164.offCoord (ix2 p c) 0 = 0 :=
      GatherDims.offCoord_eq_zero _ _ _ (fun h => ((GatherDims.mem_sKept _ _).mp h).1 (List.mem_singleton.mpr rfl))
    have hs : gather_S512x64_S4608x1_S4608x64_1_0_n_n_0_1_164.start (ix2 p c) J 0 = min (J (ix2 p 0)).toInt.toNat 511 := by
      unfold GatherDims.start
      rw [dif_pos (show (0 : Fin 2) ∈ gather_S512x64_S4608x1_S4608x64_1_0_n_n_0_1_164.startIndexMap from List.mem_singleton.mpr rfl)]
      have hsi : gather_S512x64_S4608x1_S4608x64_1_0_n_n_0_1_164.siIdx (ix2 p c)
          ⟨List.idxOf (0 : Fin 2) gather_S512x64_S4608x1_S4608x64_1_0_n_n_0_1_164.startIndexMap,
            List.idxOf_lt_length_iff.2 (List.mem_singleton.mpr rfl)⟩ = ix2 p 0 := by
        funext b; refine Fin.ext ?_
        fin_cases b <;> rfl
      rw [hsi]
      rfl
    show gather_S512x64_S4608x1_S4608x64_1_0_n_n_0_1_164.start (ix2 p c) J 0 + 0
      + gather_S512x64_S4608x1_S4608x64_1_0_n_n_0_1_164.offCoord (ix2 p c) 0 = min (J (ix2 p 0)).toInt.toNat 511
    rw [ho, hs]
    rfl
  · have hs : gather_S512x64_S4608x1_S4608x64_1_0_n_n_0_1_164.start (ix2 p c) J 1 = 0 := by
      unfold GatherDims.start
      exact dif_neg (show (1 : Fin 2) ∉ gather_S512x64_S4608x1_S4608x64_1_0_n_n_0_1_164.startIndexMap by decide)
    have ho : gather_S512x64_S4608x1_S4608x64_1_0_n_n_0_1_164.offCoord (ix2 p c) 1 = c.val := by
      unfold GatherDims.offCoord
      exact dif_pos (show (1 : Fin 2) ∈ gather_S512x64_S4608x1_S4608x64_1_0_n_n_0_1_164.sKept by decide)
    show gather_S512x64_S4608x1_S4608x64_1_0_n_n_0_1_164.start (ix2 p c) J 1 + 0
      + gather_S512x64_S4608x1_S4608x64_1_0_n_n_0_1_164.offCoord (ix2 p c) 1 = c.val
    rw [hs, ho]
    exact Nat.zero_add _

/-- A word below 512 read signed. -/
theorem toInt_of_lt {w : BitVec 32} (h : w.toNat < 512) : w.toInt = w.toNat := BitVec.toInt_eq_toNat_of_lt (by omega)

/-- An index below 512 is not negative, so it is taken as it is. -/
theorem refWrap_apply {I : IVec S4608 32} (p : Fin 4608) (h : (I (ix1 p)).toNat < 512) (z : Fin 1) : refWrap I (ix2 p z) = I (ix1 p) := by
  unfold refWrap
  rw [broadcastInDim_apply _ _ _ _ (ix1 p) (by intro a; fin_cases a; rfl)]
  show Scalar.select (BitVec.ofBool (decide ((I (ix1 p)).toInt < (0#32 : BitVec 32).toInt))) _ _ = _
  have : ¬ (I (ix1 p)).toInt < (0#32 : BitVec 32).toInt := by
    rw [toInt_of_lt h]
    have : (0#32 : BitVec 32).toInt = 0 := by decide
    omega
  rw [decide_eq_false this]
  rfl

/-- Where every index is below 512 the mask is set everywhere. -/
theorem refMask_apply {J : IVec S4608x1 32} (h : ∀ i, (J i).toNat < 512) (j : S4608.Idx) : refMask J j = 1#1 := by
  unfold refMask
  refine Host.reduce_andi_one _ _ _ _ _ rfl fun i => ?_
  show IntOp.andi (BitVec.ofBool (decide ((0#32 : BitVec 32).toInt ≤ (J i).toInt))) (BitVec.ofBool (decide ((J i).toInt ≤ (511#32 : BitVec 32).toInt))) = 1#1
  have h0 : (0#32 : BitVec 32).toInt = 0 := by decide
  have h1 : (511#32 : BitVec 32).toInt = 511 := by decide
  have := h i
  rw [toInt_of_lt this, h0, h1, decide_eq_true (by omega), decide_eq_true (by omega)]
  rfl

/-- The reference's quantized array at an entry: the channel of the code at the row's index. -/
theorem refOut_apply (E : FVec Ideal S64x512 .f32) (I : IVec S8x576 32) (h : ∀ i, (I i).toNat < 512) (b : Fin 8) (c : Fin 64) (o : Fin 576) :
    refOut E I (ix3 b c o) = E (ix2 c ⟨(I (ix2 b o)).toNat, h _⟩) := by
  have hp : b.val * 576 + o.val < 4608 := by omega
  have hI : shapeCast S4608 I shapeCasts_S8x576_S4608 (ix1 ⟨b.val * 576 + o.val, hp⟩) = I (ix2 b o) := by
    refine shapeCast_apply _ _ _ _ ?_
    rw [Shape.rowMajor_val_one, Shape.rowMajor_val_two]
    rfl
  have hlt : ∀ p : Fin 4608, (shapeCast S4608 I shapeCasts_S8x576_S4608 (ix1 p)).toNat < 512 := fun p => h _
  have hw : ∀ i, (refWrap (shapeCast S4608 I shapeCasts_S8x576_S4608) i).toNat < 512 := fun i => by
    have e : refWrap (shapeCast S4608 I shapeCasts_S8x576_S4608) i = shapeCast S4608 I shapeCasts_S8x576_S4608 (ix1 (i 0)) :=
      (congrArg _ (eq_ix2 i)).trans (refWrap_apply (i 0) (hlt _) (i 1))
    rw [e]; exact hlt _
  unfold refOut
  rw [transpose_apply _ _ _ _ (ix3 b o c) (by intro a; fin_cases a <;> rfl),
    shapeCast_apply _ _ (ix3 b o c : S8x576x64.Idx) (ix2 ⟨b.val * 576 + o.val, hp⟩ c : S4608x64.Idx)
      (by rw [Shape.rowMajor_val_three, Shape.rowMajor_val_two]; rfl)]
  unfold refTake
  rw [select_apply, broadcastInDim_apply _ _ _ _ (ix1 ⟨b.val * 576 + o.val, hp⟩) (by intro a; fin_cases a; rfl),
    refMask_apply hw, select_one, gather_apply]
  have hJ := (refWrap_apply (I := shapeCast S4608 I shapeCasts_S8x576_S4608) ⟨b.val * 576 + o.val, hp⟩ (hlt _) 0).trans hI
  refine (transpose_apply _ _ _ _ (ix2 c ⟨(I (ix2 b o)).toNat, h _⟩) ?_)
  intro a
  fin_cases a
  · have := h (ix2 b o)
    show (I (ix2 b o)).toNat = min (refWrap (shapeCast S4608 I shapeCasts_S8x576_S4608) (ix2 ⟨b.val * 576 + o.val, hp⟩ 0)).toInt.toNat 511
    rw [hJ, toInt_of_lt this]
    omega
  · rfl

end Cert.Proof.Ref
-- ==== Proof.Value.lean ====
/-
  The kernel's two results are the reference's, at the ideal values and on finite inputs: the two distances agree at every
  row and code, so the first nearest code is the same, and both quantized arrays hold that code.
-/
module

public import proofs.«01_k».proof.Proof.Argmin
public import proofs.«01_k».proof.Proof.RefValue
public import proofs.«01_k».proof.Proof.Gen.Pre_finite
public import Mathlib.Data.EReal.Operations

@[expose] public section

noncomputable section

namespace Cert.Proof.Value

open Cert.KernelIdeal Cert.KernelIdeal.Gen Cert.Proof.First Cert.Proof.Run
open Idealize.ShloMosaic hiding ix1 ix2 ix3 eq_ix2 eq_ix3
open Idealize.ShloMosaic.ValueIdx

/-! ## The two distances -/

/-- A sum of reals summed among the extended reals. -/
theorem coe_sum (s : Finset (Fin 64)) (f : Fin 64 → ℝ) : ((∑ c ∈ s, f c : ℝ) : EReal) = ∑ c ∈ s, (f c : EReal) := by
  induction s using Finset.induction_on with
  | empty => simp
  | insert a s ha ih => rw [Finset.sum_insert ha, Finset.sum_insert ha, EReal.coe_add, ih]

/-- On finite rows the expanded square, cut off below at zero, is the sum of the squared differences. -/
theorem kdist_eq_rdist (a e : Fin 64 → ℝ) :
    kdist (fun c => (a c : EReal)) (fun c => (e c : EReal)) = Ref.rdist (fun c => (a c : EReal)) (fun c => (e c : EReal)) := by
  have hr : (∑ c, a c * a c) - 2 * (∑ c, a c * e c) + ∑ c, e c * e c = ∑ c, (a c - e c) * (a c - e c) := by
    rw [Finset.mul_sum, ← Finset.sum_sub_distrib, ← Finset.sum_add_distrib]
    exact Finset.sum_congr rfl fun c _ => by ring
  have h0 : 0 ≤ ∑ c, (a c - e c) * (a c - e c) := Finset.sum_nonneg fun c _ => mul_self_nonneg _
  unfold kdist Ref.rdist
  simp only [← EReal.coe_mul, ← EReal.coe_sub, ← coe_sum, zero_add]
  have h2 : (2 : EReal) = ((2 : ℝ) : EReal) := rfl
  rw [h2, ← EReal.coe_mul, ← EReal.coe_sub, ← EReal.coe_add, hr, max_eq_left (by exact_mod_cast h0)]

/-! ## Finite inputs -/

/-- An extended real below `⊤` in absolute value is a real. -/
theorem real_of_abs {a : EReal} (h : max a (-a) < ⊤) : ((a.toReal : ℝ) : EReal) = a := by
  refine EReal.coe_toReal ?_ ?_
  · rintro rfl; simp at h
  · rintro rfl; simp at h

/-- The predicate's float constant is the top value. -/
theorem ofBits_top : Ideal.ofBits .f32 0x7F800000#32 = (⊤ : EReal) := by simp [Ideal.ofBits, Ideal.ieee]

/-- One comparison of the predicate, read back. -/
theorem real_of_cmp {a : EReal} (h : Ideal.cmp .olt (max a (-a)) (Ideal.ofBits .f32 0x7F800000#32) = 1#1) : ((a.toReal : ℝ) : EReal) = a := by
  refine real_of_abs ?_
  rw [ofBits_top] at h
  by_contra hn
  simp [Ideal.cmp, hn] at h

/-- What the precondition says: every element of both arguments is a real. -/
theorem finite_reals {X : FVec Ideal S8x64x576 .f32} {E : FVec Ideal S64x512 .f32} (h : Cert.Pre_finite.fn (F := Ideal) X E = fun _ => 1#1) :
    (∀ i, (((X i : EReal).toReal : ℝ) : EReal) = X i) ∧ ∀ i, (((E i : EReal).toReal : ℝ) : EReal) = E i := by
  have hs : Subsingleton Cert.Pre_finite.S_.Idx := ⟨fun a b => funext fun i => i.elim0⟩
  have h0 := congrFun h (Shape.Idx.first Cert.Pre_finite.Gen.h_S_)
  unfold Cert.Pre_finite.fn at h0
  dsimp only at h0
  obtain ⟨hX, hE⟩ := IntOp.andi_eq_one.1 h0
  exact ⟨fun i => real_of_cmp (Host.reduce_andi_all _ _ _ _ _ hX i), fun i => real_of_cmp (Host.reduce_andi_all _ _ _ _ _ hE i)⟩

/-! ## The results -/

variable (m : (ℓ : Loc nD τ sig) → Buf (Elt Ideal) ℓ)

omit m in
/-- The flat table read at an entry's place. -/
theorem flat_apply (E : FVec Ideal S64x512 .f32) (c : Fin 64) (k : Fin 512) (n : Fin 32768) (hn : n.val = c.val * 512 + k.val) :
    shapeCast S32768 E shapeCasts_S64x512_S32768 (ix1 n) = E (ix2 c k) := by
  refine shapeCast_apply _ _ _ _ ?_
  rw [Shape.rowMajor_val_one, Shape.rowMajor_val_two]
  exact hn.symm

omit m in
/-- The gathered rows viewed by batch and channel: the channel of the code at the row's index. -/
theorem gathered_apply (E : FVec Ideal S64x512 .f32) (A : IVec S8x576 32) (hA : ∀ i, (A i).toNat < 512) (b : Fin 8) (c : Fin 64) (o : Fin 576) :
    shapeCast S8x64x576 (gathered (F := Ideal) (shapeCast S32768 E shapeCasts_S64x512_S32768) A) shapeCasts_S512x576_S8x64x576 (ix3 b c o)
      = E (ix2 c ⟨(A (ix2 b o)).toNat, hA _⟩) := by
  have hp : b.val * 64 + c.val < 512 := by omega
  have hk := hA (ix2 b o)
  rw [shapeCast_apply _ _ (ix3 b c o : S8x64x576.Idx) (ix2 ⟨b.val * 64 + c.val, hp⟩ o : S512x576.Idx)
    (by rw [Shape.rowMajor_val_three, Shape.rowMajor_val_two]; rfl)]
  unfold gathered
  refine flat_apply E c ⟨(A (ix2 b o)).toNat, hk⟩ _ ?_
  have hb : (⟨(b.val * 64 + c.val) / 64, by omega⟩ : Fin 8) = b := Fin.ext (by show (b.val * 64 + c.val) / 64 = b.val; omega)
  have hA' : (A (ix2 (⟨(b.val * 64 + c.val) / 64, by omega⟩ : Fin 8) o)).toNat = (A (ix2 b o)).toNat :=
    congrArg (fun z : Fin 8 => (A (ix2 z o)).toNat) hb
  show ((b.val * 64 + c.val) % 64 * 512 + (A (ix2 (⟨(b.val * 64 + c.val) / 64, by omega⟩ : Fin 8) o)).toNat) % 32768
    = c.val * 512 + (A (ix2 b o)).toNat
  rw [hA']
  omega

variable (hf : ∀ d : Dev nD, Cert.Pre_finite.fn (F := Ideal) (m (xLoc d)) (m (eLoc d)) = fun _ => 1#1)
include hf

/-- The kernel's distance and the reference's agree at every row and code. -/
theorem dist_eq (d : Dev nD) (b : Fin 8) (o : Fin 576) :
    dist m d b o = fun l => Ref.refDist (F := Ideal) (m (xLoc d)) (m (eLoc d)) (ix3 b o l) := by
  funext l
  obtain ⟨hX, hE⟩ := finite_reals (hf d)
  refine Eq.trans ?_ (Ref.refDist_apply (m (xLoc d)) (m (eLoc d)) b o l).symm
  have := kdist_eq_rdist (fun c => (m (xLoc d) (ix3 b c o) : EReal).toReal) (fun c => (m (eLoc d) (ix2 c l) : EReal).toReal)
  rw [funext fun c => hX (ix3 b c o), funext fun c => hE (ix2 c l)] at this
  exact this

/-- The two indices of a row agree. -/
theorem AA_entry (d : Dev nD) (b : Fin 8) (o : Fin 576) :
    AA (F := Ideal) m d (ix2 b o) = Ref.refArg (Ref.refDist (F := Ideal) (m (xLoc d)) (m (eLoc d))) (ix2 b o) := by
  obtain ⟨k, hk⟩ := exists_first (Run.dist m d b o)
  refine (AA_apply m d b o hk).trans ?_
  rw [dist_eq m hf] at hk
  exact (Ref.refArg_apply _ b o hk).symm

/-- The two index arrays agree. -/
theorem AA_eq (d : Dev nD) : AA (F := Ideal) m d = Ref.refArg (Ref.refDist (F := Ideal) (m (xLoc d)) (m (eLoc d))) := by
  funext i
  exact (congrArg _ (ValueIdx.eq_ix2 i)).trans ((AA_entry m hf d (i 0) (i 1)).trans (congrArg _ (ValueIdx.eq_ix2 i)).symm)

/-- The two quantized arrays agree. -/
theorem OO_eq (d : Dev nD) :
    OO (F := Ideal) m d = Ref.refOut (F := Ideal) (m (eLoc d)) (Ref.refArg (Ref.refDist (F := Ideal) (m (xLoc d)) (m (eLoc d)))) := by
  rw [← AA_eq m hf d]
  funext i
  have h1 := gathered_apply (m (eLoc d)) (AA (F := Ideal) m d) (AA_lt m d) (i 0) (i 1) (i 2)
  have h2 := Ref.refOut_apply (m (eLoc d)) (AA (F := Ideal) m d) (AA_lt m d) (i 0) (i 1) (i 2)
  have hi : i = ix3 (i 0) (i 1) (i 2) := ValueIdx.eq_ix3 i
  exact (congrArg _ hi).trans ((h1.trans h2.symm).trans (congrArg _ hi).symm)

end Cert.Proof.Value
-- ==== Proof.lean ====
/-
  The certificate's claims: both programs run and leave their arguments alone, and on finite inputs their two results are
  equal at the ideal values.
-/
module

public import proofs.«01_k».proof.Defs
public import proofs.«01_k».proof.Proof.Gen.KernelIdeal
public import proofs.«01_k».proof.Proof.Gen.ReferenceIdeal
public import proofs.«01_k».proof.Proof.Gen.Pre_finite
public import proofs.«01_k».proof.Proof.Value

@[expose] public section

noncomputable section

namespace Cert.Proof

open Idealize.ShloMosaic Idealize.SL.Sem

/-- The kernel runs and its arguments end unchanged, from any memory. -/
theorem kernel_frame : Cert.quiescent_KernelIdeal := fun m g _ =>
  (θ_run _ _ _).mono (fun _ h => ⟨fun c => ⟨(h.1 c).2.2.1, (h.1 c).2.2.2⟩, h.2⟩) (Run.run_main (F := Ideal) m g (Run.AA_lt m))

/-- The reference runs and its arguments end unchanged, from any memory. -/
theorem reference_frame : Cert.quiescent_ReferenceIdeal := fun m g _ =>
  (θ_run _ _ _).mono (fun _ h => ⟨fun c => ⟨(h.1 c).2.2.1, (h.1 c).2.2.2⟩, h.2⟩) (Ref.run_main (F := Ideal) m g)

/-- On finite inputs the kernel's results are the reference's. -/
theorem results_equal : Cert.algebraic_KernelIdeal_ReferenceIdeal_pre_finite := fun m g m' g' hf hm =>
  ⟨fun c => Run.OO m c, fun c => Run.AA m c,
    (θ_run _ _ _).mono (fun _ h c => h.1 c) (Run.run_main (F := Ideal) m g (Run.AA_lt m)),
    (θ_run _ _ _).mono (fun _ h c => by
      obtain ⟨h0, h1, h2, h3⟩ := h.1 c
      refine ⟨h0.trans ?_, h1.trans ?_, h2, h3⟩
      · rw [(hm c).1, (hm c).2]; exact (Value.OO_eq m hf c).symm
      · rw [(hm c).1, (hm c).2]; exact (Value.AA_eq m hf c).symm) (Ref.run_main (F := Ideal) m' g')⟩

/-- Everything the certificate claims. -/
theorem claim : Cert.Claim := ⟨Cert.KernelIdeal.Gen.facts, Cert.ReferenceIdeal.Gen.facts, Cert.Pre_finite.Gen.facts,
  kernel_frame, fun m g _ => kernel_frame m g trivial, reference_frame, fun m g _ => reference_frame m g trivial, results_equal⟩

end Cert.Proof

end
